-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_close [hPre_scores_close : Cert.Pre_scores_close.Facts] (m : (ℓ : Loc Cert.KernelIdeal.nD Cert.KernelIdeal.τ Cert.KernelIdeal.sig) → Buf (Elt Ideal) ℓ) : Prop :=
  ∀ c : Dev Cert.KernelIdeal.nD,
    (Cert.Pre_scores_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_close [hPre_scores_close : Cert.Pre_scores_close.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_close.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_close [hKernelIdeal : Cert.KernelIdeal.Facts] [hPre_scores_close : Cert.Pre_scores_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_close m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_close [hReferenceIdeal : Cert.ReferenceIdeal.Facts] [hPre_scores_close : Cert.Pre_scores_close.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_close m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_close [hKernelIdeal : Cert.KernelIdeal.Facts] [hReferenceIdeal : Cert.ReferenceIdeal.Facts] [hPre_scores_close : Cert.Pre_scores_close.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_close m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_close : Cert.Pre_scores_close.Facts),
    quiescent_Kernel (hKernel := hKernel)
    ∧ quiescent_KernelIdeal (hKernelIdeal := hKernelIdeal)
    ∧ quiescent_KernelIdeal_pre_scores_close (hKernelIdeal := hKernelIdeal) (hPre_scores_close := hPre_scores_close)
    ∧ quiescent_ReferenceIdeal (hReferenceIdeal := hReferenceIdeal)
    ∧ quiescent_ReferenceIdeal_pre_scores_close (hReferenceIdeal := hReferenceIdeal) (hPre_scores_close := hPre_scores_close)
    ∧ preserves_Kernel_KernelIdeal
    ∧ algebraic_KernelIdeal_ReferenceIdeal_pre_scores_close (hKernelIdeal := hKernelIdeal) (hReferenceIdeal := hReferenceIdeal) (hPre_scores_close := hPre_scores_close)
-- ==== Pre_scores_close.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000_S_d0 : S100000.ReducesTo [0] S_
  h_S_ : 0 < S_.numel
  bcast_S_S100000 : S_.BroadcastsInDim S100000 (![] : Fin 0 → Fin S100000.rank)
  dot_S100000x128_S128x128_S100000x128_1_0_0_1_n_n_wf : DotDims.WF S100000x128 S128x128 S100000x128 [1] [0] [0] [1] [] []
  dot_S100000x128_S128_S100000_1_0_0_n_n_n_wf : DotDims.WF S100000x128 S128 S100000 [1] [0] [0] [] [] []

variable [Facts]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128_S100000_1_0_0_n_n_n : DotDims S100000x128 S128 S100000 where
  lhsContracting := [1]
  rhsContracting := [0]
  lhsNonContracting := [0]
  rhsNonContracting := []
  lhsBatch := []
  rhsBatch := []
  wf := dot_S100000x128_S128_S100000_1_0_0_n_n_n_wf
def fn {F : FTy → Type} [FloatOps F] (main_arg0 : FVec F S100000x128 .f32) (main_arg1 : IVec S100000 32) (main_arg2 : FVec F S128x128 .f32) (main_arg3 : FVec F S128 .f32) (main_arg4 : FVec F S128 .f32) : IVec S_ 1 :=
  let main_v0 : FVec F S128x128 .f32 := (transpose S128x128 [1, 0] · transposes_S128x128_S128x128_1_0) main_arg2
  let main_v1 : FVec F S100000x128 .f32 := (fun l r => Host.dotGeneral dot_S100000x128_S128x128_S100000x128_1_0_0_1_n_n none l r) main_arg0 main_v0
  let main_v2 : FVec F S1x128 .f32 := broadcastInDim S1x128 ![1] bcast_S128_S1x128_1 main_arg3
  let main_v3 : FVec F S100000x128 .f32 := broadcastInDim S100000x128 ![0, 1] bcast_S1x128_S100000x128_0_1 main_v2
  let main_v4 : FVec F S100000x128 .f32 := addf main_v1 main_v3
  let main_v5 : FVec F S100000x128 .f32 := Host.tanh main_v4
  let main_v6 : FVec F S100000 .f32 := (fun l r => Host.dotGeneral dot_S100000x128_S128_S100000_1_0_0_n_n_n none l r) main_v5 main_arg4
  let main_cst : FVec F S_ .f32 := constant S_ .f32 0xFF800000#32
  let main_v7 : FVec F S_ .f32 := (fun x v => Host.reduce FloatOps.maximumf x v reducesTo_S100000_S_d0 h_S_) main_v6 main_cst
  let main_cst_0 : FVec F S_ .f32 := constant S_ .f32 0x7F800000#32
  let main_v8 : FVec F S_ .f32 := (fun x v => Host.reduce FloatOps.minimumf x v reducesTo_S100000_S_d0 h_S_) main_v6 main_cst_0
  let main_v9 : FVec F S_ .f32 := subf main_v7 main_v8
  let main_cst_1 : FVec F S_ .f32 := constant S_ .f32 0x42D00000#32
  let main_v10 : IVec S_ 1 := cmpf .ole main_v9 main_cst_1
  let main_c : IVec S_ 32 := constantI S_ 32 0#32
  let main_v11 : IVec S100000 32 := broadcastInDim S100000 ![] bcast_S_S100000 main_c
  let main_v12 : IVec S100000 1 := cmpi .sge main_arg1 main_v11
  let main_c_2 : IVec S_ 32 := constantI S_ 32 256#32
  let main_v13 : IVec S100000 32 := broadcastInDim S100000 ![] bcast_S_S100000 main_c_2
  let main_v14 : IVec S100000 1 := cmpi .slt main_arg1 main_v13
  let main_v15 : IVec S100000 1 := andi main_v12 main_v14
  let main_c_3 : IVec S_ 1 := constantI S_ 1 1#1
  let main_v16 : IVec S_ 1 := (fun x v => Host.reduce IntOp.andi x v reducesTo_S100000_S_d0 h_S_) main_v15 main_c_3
  let main_v17 : IVec S_ 1 := andi main_v10 main_v16
  main_v17
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S10x1x10000 : Shape := ⟨3, ![10, 1, 10000]⟩
abbrev S1x128 : Shape := ⟨2, ![1, 128]⟩
abbrev S256x128 : Shape := ⟨2, ![256, 128]⟩
abbrev S10000x128 : Shape := ⟨2, ![10000, 128]⟩
abbrev S1x1x10000 : Shape := ⟨3, ![1, 1, 10000]⟩
abbrev S256x1 : Shape := ⟨2, ![256, 1]⟩
abbrev S1x10000 : Shape := ⟨2, ![1, 10000]⟩
abbrev S1 : Shape := ⟨1, ![1]⟩
abbrev S1x1 : Shape := ⟨2, ![1, 1]⟩
abbrev S256x10000 : Shape := ⟨2, ![256, 10000]⟩
abbrev S256 : Shape := ⟨1, ![256]⟩
abbrev S10000x1 : Shape := ⟨2, ![10000, 1]⟩

abbrev nBuf : Space → Nat
  | .hbm => 10
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S100000, .i16⟩
  | .hbm, ⟨6, _⟩ => ⟨S10x1x10000, .i16⟩
  | .hbm, ⟨7, _⟩ => ⟨S1x128, .f32⟩
  | .hbm, ⟨8, _⟩ => ⟨S1x128, .f32⟩
  | .hbm, ⟨9, _⟩ => ⟨S256x128, .f32⟩
  | .local _ .vmem, ⟨0, _⟩ => ⟨S10000x128, .f32⟩
  | .local _ .vmem, ⟨1, _⟩ => ⟨S10000x128, .f32⟩
  | .local _ .vmem, ⟨2, _⟩ => ⟨S1x1x10000, .i16⟩
  | .local _ .vmem, ⟨3, _⟩ => ⟨S1x1x10000, .i16⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S256x128, .f32⟩
  | .local _ .vmem, ⟨8, _⟩ => ⟨S256x1, .f32⟩
  | .local _ .vmem, ⟨9, _⟩ => ⟨S256x1, .f32⟩
  | .local _ .vmem, ⟨10, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v73 : BitVec 1 := Scalar.cmpi .eq arg0 c9_i32
  let v74 : BitVec 32 := Scalar.extui v73
  let c0_i32_32 : BitVec 32 := 0#32
  let v75 : BitVec 1 := Scalar.cmpi .ne v74 c0_i32_32
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S1x128 : Shape := ⟨2, ![1, 128]⟩
abbrev S100000x1 : Shape := ⟨2, ![100000, 1]⟩
abbrev S256 : Shape := ⟨1, ![256]⟩
abbrev S1x256 : Shape := ⟨2, ![1, 256]⟩
abbrev S100000x256 : Shape := ⟨2, ![100000, 256]⟩
abbrev S_ : Shape := ⟨0, ![]⟩
abbrev S256x128 : Shape := ⟨2, ![256, 128]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S100000x128, .f32⟩
  | .hbm, ⟨11, _⟩ => ⟨S100000, .f32⟩
  | .hbm, ⟨12, _⟩ => ⟨S100000x1, .i32⟩
  | .hbm, ⟨13, _⟩ => ⟨S256, .i32⟩
  | .hbm, ⟨14, _⟩ => ⟨S1x256, .i32⟩
  | .hbm, ⟨15, _⟩ => ⟨S100000x256, .i32⟩
  | .hbm, ⟨16, _⟩ => ⟨S100000x256, .i32⟩
  | .hbm, ⟨17, _⟩ => ⟨S100000x256, .i1⟩
  | .hbm, ⟨18, _⟩ => ⟨S100000x1, .f32⟩
  | .hbm, ⟨19, _⟩ => ⟨S_, .f32⟩
  | .hbm, ⟨20, _⟩ => ⟨S_, .f32⟩
  | .hbm, ⟨21, _⟩ => ⟨S100000x256, .f32⟩
  | .hbm, ⟨22, _⟩ => ⟨S100000x256, .f32⟩
  | .hbm, ⟨23, _⟩ => ⟨S100000x256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .i1⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S100000, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S256, .f32⟩
  | .hbm, ⟨47, _⟩ => ⟨S100000x1, .i32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .i1⟩
  | .hbm, ⟨52, _⟩ => ⟨S_, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S_, .i32⟩
  | .hbm, ⟨57, _⟩ => ⟨S100000, .i32⟩
  | .hbm, ⟨58, _⟩ => ⟨S100000, .i1⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S100000, .i32⟩
  | .hbm, ⟨63, _⟩ => ⟨S100000x1, .i32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S256x128, .f32⟩
  | .hbm, ⟨71, _⟩ => ⟨S100000x1, .i32⟩
  | .hbm, ⟨72, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_call2_v0 : Ref sig .tc := ⟨.hbm, 53, rfl⟩
abbrev main_call2_v1 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Cases.lean ====
module

public import proofs.«01_k».proof.Proof.Gen.KernelIdeal.Frame
public import Idealize.ShloMosaic.Lib.Pipeline.Value
public import Idealize.ShloMosaic.Lib.Tactic

/-! What the body leaves in the three kept arrays, and at the last point in the output, as terms of the
    blocks it read. -/

@[expose] public section

noncomputable section

open Idealize.ShloMosaic Idealize.ShloMosaic.TcCoe Idealize.SL.Sem

namespace Cert.KernelIdeal.Block

open Cert.KernelIdeal Cert.KernelIdeal.Gen

variable {F : FTy → Type} [FloatOps F]

/-- The zero offsets of a matrix. -/
theorem hz2 : (![0, 0] : Fin 2 → Nat) = fun _ => 0 := funext fun a => by fin_cases a <;> rfl

/-- The zero offsets of a rank-three array. -/
theorem hz3 : (![0, 0, 0] : Fin 3 → Nat) = fun _ => 0 := funext fun a => by fin_cases a <;> rfl

section

variable (x0 : Vec F S10000x128 .f32) (x1 : Vec F S1x1x10000 .i16) (x2 : Vec F S128x128 .f32) (x3 x4 : Vec F S1x128 .f32)
  (m : Vec F S256x1 .f32) (d : Vec F S256x1 .f32) (s : Vec F S256x128 .f32)

/-- The shifts after a block. -/
abbrev nextM : Vec F S256x1 .f32 := k0_pay14 (k0_pay8 x0 x2 x3 x4 x1) m

/-- The denominators after a block. -/
abbrev nextD : Vec F S256x1 .f32 :=
  k0_pay12 (k0_pay6 x0 x2 x3 x4) (k0_pay7 x0 x2 x3 x4 x1) (k0_pay8 x0 x2 x3 x4 x1) m d

/-- The weighted sums after a block. -/
abbrev nextS : Vec F S256x128 .f32 :=
  k0_pay13 (k0_pay4 x0) (k0_pay6 x0 x2 x3 x4) (k0_pay7 x0 x2 x3 x4 x1) (k0_pay8 x0 x2 x3 x4 x1) m s

end

/-- The first point leaves the shifts. -/
theorem sout0_A_0_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : cond0_0 i) (hc1 : ¬cond0_1 i)
    (x0 : Vec F S10000x128 .f32) (x1 : Vec F S1x1x10000 .i16) (x2 : Vec F S128x128 .f32) (x3 x4 : Vec F S1x128 .f32) :
    sout0_A_0 c i arg1 harg1 arg2 harg2 arg3 harg3 arg4 harg4 arg5 harg5 arg6 harg6 arg7 harg7 arg8 harg8 arg9 harg9 hc0 hc1 x0 x1 x2 x3 x4
      = nextM x0 x1 x2 x3 x4 k0_pay1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  first
    | rw [View.canon_unit_zero (S := S256x1) hz2]
    | rw [View.canon_cons_unit_zero (S := S256x1) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- The first point leaves the denominators. -/
theorem sout0_A_1_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : cond0_0 i) (hc1 : ¬cond0_1 i)
    (x0 : Vec F S10000x128 .f32) (x1 : Vec F S1x1x10000 .i16) (x2 : Vec F S128x128 .f32) (x3 x4 : Vec F S1x128 .f32) :
    sout0_A_1 c i arg1 harg1 arg2 harg2 arg3 harg3 arg4 harg4 arg5 harg5 arg6 harg6 arg7 harg7 arg8 harg8 arg9 harg9 hc0 hc1 x0 x1 x2 x3 x4
      = nextD x0 x1 x2 x3 x4 k0_pay1 k0_pay2 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  first
    | rw [View.canon_unit_zero (S := S256x1) hz2]
    | rw [View.canon_cons_unit_zero (S := S256x1) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- The first point leaves the weighted sums. -/
theorem sout0_A_2_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : cond0_0 i) (hc1 : ¬cond0_1 i)
    (x0 : Vec F S10000x128 .f32) (x1 : Vec F S1x1x10000 .i16) (x2 : Vec F S128x128 .f32) (x3 x4 : Vec F S1x128 .f32) :
    sout0_A_2 c i arg1 harg1 arg2 harg2 arg3 harg3 arg4 harg4 arg5 harg5 arg6 harg6 arg7 harg7 arg8 harg8 arg9 harg9 hc0 hc1 x0 x1 x2 x3 x4
      = nextS x0 x1 x2 x3 x4 k0_pay1 k0_pay3 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  first
    | rw [View.canon_unit_zero (S := S256x128) hz2]
    | rw [View.canon_cons_unit_zero (S := S256x128) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- A middle point leaves the shifts. -/
theorem sout0_B_0_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : ¬cond0_0 i) (hc1 : ¬cond0_1 i)
    (x0 : Vec F S10000x128 .f32) (x1 : Vec F S1x1x10000 .i16) (x2 : Vec F S128x128 .f32) (x3 x4 : Vec F S1x128 .f32)
    (xs0 xs1 : Vec F S256x1 .f32) (xs2 : Vec F S256x128 .f32) :
    sout0_B_0 c i arg1 harg1 arg2 harg2 arg3 harg3 arg4 harg4 arg5 harg5 arg6 harg6 arg7 harg7 arg8 harg8 arg9 harg9 hc0 hc1 x0 x1 x2 x3 x4 xs0 xs1 xs2
      = nextM x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  first
    | rw [View.canon_unit_zero (S := S256x1) hz2]
    | rw [View.canon_cons_unit_zero (S := S256x1) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- A middle point leaves the denominators. -/
theorem sout0_B_1_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : ¬cond0_0 i) (hc1 : ¬cond0_1 i)
    (x0 : Vec F S10000x128 .f32) (x1 : Vec F S1x1x10000 .i16) (x2 : Vec F S128x128 .f32) (x3 x4 : Vec F S1x128 .f32)
    (xs0 xs1 : Vec F S256x1 .f32) (xs2 : Vec F S256x128 .f32) :
    sout0_B_1 c i arg1 harg1 arg2 harg2 arg3 harg3 arg4 harg4 arg5 harg5 arg6 harg6 arg7 harg7 arg8 harg8 arg9 harg9 hc0 hc1 x0 x1 x2 x3 x4 xs0 xs1 xs2
      = nextD x0 x1 x2 x3 x4 xs0 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  first
    | rw [View.canon_unit_zero (S := S256x1) hz2]
    | rw [View.canon_cons_unit_zero (S := S256x1) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- A middle point leaves the weighted sums. -/
theorem sout0_B_2_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : ¬cond0_0 i) (hc1 : ¬cond0_1 i)
    (x0 : Vec F S10000x128 .f32) (x1 : Vec F S1x1x10000 .i16) (x2 : Vec F S128x128 .f32) (x3 x4 : Vec F S1x128 .f32)
    (xs0 xs1 : Vec F S256x1 .f32) (xs2 : Vec F S256x128 .f32) :
    sout0_B_2 c i arg1 harg1 arg2 harg2 arg3 harg3 arg4 harg4 arg5 harg5 arg6 harg6 arg7 harg7 arg8 harg8 arg9 harg9 hc0 hc1 x0 x1 x2 x3 x4 xs0 xs1 xs2
      = nextS x0 x1 x2 x3 x4 xs0 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  first
    | rw [View.canon_unit_zero (S := S256x128) hz2]
    | rw [View.canon_cons_unit_zero (S := S256x128) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- The last point leaves the shifts. -/
theorem sout0_C_0_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : ¬cond0_0 i) (hc1 : cond0_1 i)
    (x0 : Vec F S10000x128 .f32) (x1 : Vec F S1x1x10000 .i16) (x2 : Vec F S128x128 .f32) (x3 x4 : Vec F S1x128 .f32)
    (xs0 xs1 : Vec F S256x1 .f32) (xs2 : Vec F S256x128 .f32) :
    sout0_C_0 c i arg1 harg1 arg2 harg2 arg3 harg3 arg4 harg4 arg5 harg5 arg6 harg6 arg7 harg7 arg8 harg8 arg9 harg9 hc0 hc1 x0 x1 x2 x3 x4 xs0 xs1 xs2
      = nextM x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  first
    | rw [View.canon_unit_zero (S := S256x1) hz2]
    | rw [View.canon_cons_unit_zero (S := S256x1) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- The last point leaves the denominators. -/
theorem sout0_C_1_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : ¬cond0_0 i) (hc1 : cond0_1 i)
    (x0 : Vec F S10000x128 .f32) (x1 : Vec F S1x1x10000 .i16) (x2 : Vec F S128x128 .f32) (x3 x4 : Vec F S1x128 .f32)
    (xs0 xs1 : Vec F S256x1 .f32) (xs2 : Vec F S256x128 .f32) :
    sout0_C_1 c i arg1 harg1 arg2 harg2 arg3 harg3 arg4 harg4 arg5 harg5 arg6 harg6 arg7 harg7 arg8 harg8 arg9 harg9 hc0 hc1 x0 x1 x2 x3 x4 xs0 xs1 xs2
      = nextD x0 x1 x2 x3 x4 xs0 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  first
    | rw [View.canon_unit_zero (S := S256x1) hz2]
    | rw [View.canon_cons_unit_zero (S := S256x1) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- The last point leaves the weighted sums. -/
theorem sout0_C_2_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : ¬cond0_0 i) (hc1 : cond0_1 i)
    (x0 : Vec F S10000x128 .f32) (x1 : Vec F S1x1x10000 .i16) (x2 : Vec F S128x128 .f32) (x3 x4 : Vec F S1x128 .f32)
    (xs0 xs1 : Vec F S256x1 .f32) (xs2 : Vec F S256x128 .f32) :
    sout0_C_2 c i arg1 harg1 arg2 harg2 arg3 harg3 arg4 harg4 arg5 harg5 arg6 harg6 arg7 harg7 arg8 harg8 arg9 harg9 hc0 hc1 x0 x1 x2 x3 x4 xs0 xs1 xs2
      = nextS x0 x1 x2 x3 x4 xs0 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  first
    | rw [View.canon_unit_zero (S := S256x128) hz2]
    | rw [View.canon_cons_unit_zero (S := S256x128) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

/-- The last point leaves the quotient in the output. -/
theorem out0_C_5_eq (c : Dev nD) (i : grid0.Coords)
    (arg1 : Memref sig .tc .vmem S10000x128 .f32) (harg1 : arg1.IsWhole)
    (arg2 : Memref sig .tc .vmem S1x1x10000 .i16) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S256x128 .f32) (harg6 : arg6.IsWhole)
    (arg7 : Memref sig .tc .vmem S256x1 .f32) (harg7 : arg7.IsWhole)
    (arg8 : Memref sig .tc .vmem S256x1 .f32) (harg8 : arg8.IsWhole)
    (arg9 : Memref sig .tc .vmem S256x128 .f32) (harg9 : arg9.IsWhole)
    (hc0 : ¬cond0_0 i) (hc1 : cond0_1 i)
    (x0 : Vec F S10000x128 .f32) (x1 : Vec F S1x1x10000 .i16) (x2 : Vec F S128x128 .f32) (x3 x4 : Vec F S1x128 .f32)
    (xs0 xs1 : Vec F S256x1 .f32) (xs2 : Vec F S256x128 .f32) :
    out0_C_5 c i arg1 harg1 arg2 harg2 arg3 harg3 arg4 harg4 arg5 harg5 arg6 harg6 arg7 harg7 arg8 harg8 arg9 harg9 hc0 hc1 x0 x1 x2 x3 x4 xs0 xs1 xs2
      = k0_pay15 (nextD x0 x1 x2 x3 x4 xs0 xs1) (nextS x0 x1 x2 x3 x4 xs0 xs2) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  first
    | rw [View.canon_unit_zero (S := S256x128) hz2]
    | rw [View.canon_cons_unit_zero (S := S256x128) hz2]
  simp only [View.readAt_eq_ld, harg1.read_unread, harg2.read_unread, harg3.read_unread, harg4.read_unread, harg5.read_unread, harg6.read_unread, harg7.read_unread, harg8.read_unread, harg9.read_unread, View.readCov_unit_zero (S := S256x1) _ hz2, View.readCov_unit_zero (S := S256x128) _ hz2,
    View.ld_unit_zero (S := S10000x128) hz2, View.ld_unit_zero (S := S1x1x10000) hz3, View.ld_unit_zero (S := S128x128) hz2,
    View.ld_unit_zero (S := S1x128) hz2, View.ld_unit_zero (S := S256x1) hz2, View.ld_unit_zero (S := S256x128) hz2, shapeCast_self]

end Cert.KernelIdeal.Block
-- ==== Proof.Chain.lean ====
module

public import proofs.«01_k».proof.Proof.Gen.KernelIdeal.Value
public import proofs.«01_k».proof.Proof.Cases

/-! The kept arrays from one point to the next, and the output after the last. -/

@[expose] public section

noncomputable section

open Idealize.ShloMosaic Idealize.ShloMosaic.TcCoe Idealize.SL.Sem

namespace Cert.KernelIdeal.Block

open Cert.KernelIdeal Cert.KernelIdeal.Gen Cert.KernelIdeal.Value

variable {F : FTy → Type} [FloatOps F]
variable (m : (ℓ : Loc nD τ sig) → Buf (Elt F) ℓ) (c : Dev nD)

set_option maxHeartbeats 2000000 in
/-- The first point steps from the starting arrays. -/
theorem outs_zero (h : 0 < cfg0.N) :
    (outsAt0 m c 0 h).2.1 = nextM (iblk m c 0 ⟨0, h⟩) (iblk m c 1 ⟨0, h⟩) (iblk m c 2 ⟨0, h⟩) (iblk m c 3 ⟨0, h⟩) (iblk m c 4 ⟨0, h⟩) k0_pay1
    ∧ (outsAt0 m c 0 h).2.2.1 = nextD (iblk m c 0 ⟨0, h⟩) (iblk m c 1 ⟨0, h⟩) (iblk m c 2 ⟨0, h⟩) (iblk m c 3 ⟨0, h⟩) (iblk m c 4 ⟨0, h⟩) k0_pay1 k0_pay2
    ∧ (outsAt0 m c 0 h).2.2.2 = nextS (iblk m c 0 ⟨0, h⟩) (iblk m c 1 ⟨0, h⟩) (iblk m c 2 ⟨0, h⟩) (iblk m c 3 ⟨0, h⟩) (iblk m c 4 ⟨0, h⟩) k0_pay1 k0_pay3 := by
  rw [outsAt0_zero, stAt0_A m c ⟨0, h⟩ _ (Nat.zero_mod _) (by show ¬0 % 10 = 9; decide)]
  refine ⟨?_, ?_, ?_⟩ <;> dsimp only
  · rw [sout0_A_0_eq]
  · rw [sout0_A_1_eq]
  · rw [sout0_A_2_eq]

set_option maxHeartbeats 2000000 in
/-- Every later point steps from what the point before left. -/
theorem outs_succ (n : ℕ) (h : n + 1 < cfg0.N) (a : Vec F S256x128 .f32 × Vec F S256x1 .f32 × Vec F S256x1 .f32 × Vec F S256x128 .f32)
    (ha : outsAt0 m c n (Nat.lt_of_succ_lt h) = a) :
    (outsAt0 m c (n + 1) h).2.1 = nextM (iblk m c 0 ⟨n + 1, h⟩) (iblk m c 1 ⟨n + 1, h⟩) (iblk m c 2 ⟨n + 1, h⟩) (iblk m c 3 ⟨n + 1, h⟩) (iblk m c 4 ⟨n + 1, h⟩) a.2.1
    ∧ (outsAt0 m c (n + 1) h).2.2.1 = nextD (iblk m c 0 ⟨n + 1, h⟩) (iblk m c 1 ⟨n + 1, h⟩) (iblk m c 2 ⟨n + 1, h⟩) (iblk m c 3 ⟨n + 1, h⟩) (iblk m c 4 ⟨n + 1, h⟩) a.2.1 a.2.2.1
    ∧ (outsAt0 m c (n + 1) h).2.2.2 = nextS (iblk m c 0 ⟨n + 1, h⟩) (iblk m c 1 ⟨n + 1, h⟩) (iblk m c 2 ⟨n + 1, h⟩) (iblk m c 3 ⟨n + 1, h⟩) (iblk m c 4 ⟨n + 1, h⟩) a.2.1 a.2.2.2 := by
  have hN : n + 1 < 10 := lt_of_lt_of_eq h (show cfg0.N = 10 from N_0)
  rw [outsAt0_succ, ha]
  by_cases h1 : (n + 1) % 10 = 9
  · rw [stAt0_C m c ⟨n + 1, h⟩ a (by show ¬(n + 1) % 10 = 0; omega) h1]
    refine ⟨?_, ?_, ?_⟩ <;> dsimp only
    · rw [sout0_C_0_eq]
    · rw [sout0_C_1_eq]
    · rw [sout0_C_2_eq]
  · rw [stAt0_B m c ⟨n + 1, h⟩ a (by show ¬(n + 1) % 10 = 0; omega) h1]
    refine ⟨?_, ?_, ?_⟩ <;> dsimp only
    · rw [sout0_B_0_eq]
    · rw [sout0_B_1_eq]
    · rw [sout0_B_2_eq]

set_option maxHeartbeats 2000000 in
/-- The last point leaves the quotient of what it kept. -/
theorem outs_last (h : 9 < cfg0.N) :
    (outsAt0 m c 9 h).1 = k0_pay15 (outsAt0 m c 9 h).2.2.1 (outsAt0 m c 9 h).2.2.2 := by
  have e := outs_succ m c 8 h _ rfl
  rw [e.2.1, e.2.2, outsAt0_succ, stAt0_C m c ⟨8 + 1, h⟩ _ (by show ¬9 % 10 = 0; decide) (by show 9 % 10 = 9; decide)]
  dsimp only
  rw [out0_C_5_eq]

end Cert.KernelIdeal.Block
-- ==== Proof.Host.lean ====
module

public import proofs.«01_k».proof.Proof.Gen.KernelIdeal.Frame.Runs
public import Idealize.ShloMosaic.Lib.StableHlo.Run
public import Idealize.ShloMosaic.Lib.Pipeline.Value
public import Idealize.ShloMosaic.Lib.Pointwise

/-! The blocks the kernel reads, as entries of the argument arrays. -/

@[expose] public section

noncomputable section

open Idealize.ShloMosaic Idealize.ShloMosaic.TcCoe Idealize.SL.Sem

namespace Cert.KernelIdeal.Block

open Cert.KernelIdeal Cert.KernelIdeal.Gen

set_option maxRecDepth 16384

variable {F : FTy → Type} [FloatOps F]
variable (m : (ℓ : Loc nD τ sig) → Buf (Elt F) ℓ)

/-- The graph numbers as the region finds them: cut to sixteen bits, ten rows of ten thousand. -/
theorem V_ids (c : Dev nD) : (V m c main_call0_v1 : Vec F S10x1x10000 .i16)
    = shapeCast S10x1x10000 (trunci 16 (m ((c : Thread nD τ).loc main_arg1) : IVec S100000 32) natLt_16_32)
        shapeCasts_S100000_S10x1x10000 := by
  show StableHlo.after hostOps0 (fun b => m (c, b)) (Proc.devRef .tc main_call0_v1) = _
  after_results
  rfl

/-- The bias as the region finds it. -/
theorem V_b (c : Dev nD) : (V m c main_call0_v2 : Vec F S1x128 .f32)
    = shapeCast S1x128 (m ((c : Thread nD τ).loc main_arg3) : Vec F S128 .f32) shapeCasts_S128_S1x128 := by
  show StableHlo.after hostOps0 (fun b => m (c, b)) (Proc.devRef .tc main_call0_v2) = _
  after_results
  rfl

/-- The query as the region finds it. -/
theorem V_q (c : Dev nD) : (V m c main_call0_v3 : Vec F S1x128 .f32)
    = shapeCast S1x128 (m ((c : Thread nD τ).loc main_arg4) : Vec F S128 .f32) shapeCasts_S128_S1x128 := by
  show StableHlo.after hostOps0 (fun b => m (c, b)) (Proc.devRef .tc main_call0_v3) = _
  after_results
  rfl

/-- Point `t` reads the values' block `t`. -/
theorem idx0 : ∀ t : Fin cfg0.N, win0_0.index t 0 = t.val ∧ win0_0.index t 1 = 0 := by decide

/-- Point `t` reads the graph numbers' block `t`. -/
theorem idx1 : ∀ t : Fin cfg0.N, win0_1.index t 0 = t.val ∧ win0_1.index t 1 = 0 ∧ win0_1.index t 2 = 0 := by decide

/-- Every point reads the whole weights. -/
theorem idx2 : ∀ t : Fin cfg0.N, win0_2.index t 0 = 0 ∧ win0_2.index t 1 = 0 := by decide

/-- Every point reads the whole bias. -/
theorem idx3 : ∀ t : Fin cfg0.N, win0_3.index t 0 = 0 ∧ win0_3.index t 1 = 0 := by decide

/-- Every point reads the whole query. -/
theorem idx4 : ∀ t : Fin cfg0.N, win0_4.index t 0 = 0 ∧ win0_4.index t 1 = 0 := by decide

/-- Row `k` of block `t` is row `10000 t + k` of the values. -/
theorem iblk0 (c : Dev nD) (t : Fin cfg0.N) (k : Fin 10000) (j : Fin 128) (n : Fin 100000) (hn : n.val = 10000 * t.val + k.val) :
    (iblk m c 0 t : Vec F S10000x128 .f32) (ix2 k j) = (m ((c : Thread nD τ).loc main_arg0) : Vec F S100000x128 .f32) (ix2 n j) := by
  have hi := idx0 t
  unfold iblk
  rw [View.read_apply]
  show V m c main_arg0 _ = m (c.tc.loc main_arg0) _
  rw [V_main_arg0]
  congr 1
  funext a
  apply Fin.ext
  match a with
  | ⟨0, _⟩ => show win0_0.index t 0 * 10000 + 1 * k.val = n.val; rw [hi.1]; omega
  | ⟨1, _⟩ => show win0_0.index t 1 * 128 + 1 * j.val = j.val; rw [hi.2]; omega

/-- Entry `k` of block `t` of the graph numbers is entry `10000 t + k`, cut to sixteen bits. -/
theorem iblk1 (c : Dev nD) (t : Fin cfg0.N) (k : Fin 10000) (n : Fin 100000) (hn : n.val = 10000 * t.val + k.val) :
    (iblk m c 1 t : Vec F S1x1x10000 .i16) (ix3 0 0 k)
      = (BitVec.truncate 16 ((m ((c : Thread nD τ).loc main_arg1) : IVec S100000 32) (ix1 n)) : BitVec 16) := by
  have hi := idx1 t
  have ht : t.val < 10 := t.isLt
  have h : (iblk m c 1 t : Vec F S1x1x10000 .i16) (ix3 0 0 k)
      = (V m c main_call0_v1 : Vec F S10x1x10000 .i16) (ix3 ⟨t.val, ht⟩ 0 k) := by
    unfold iblk
    rw [View.read_apply]
    show V m c main_call0_v1 _ = V m c main_call0_v1 _
    congr 1
    funext a
    apply Fin.ext
    match a with
    | ⟨0, _⟩ => show win0_1.index t 0 * 1 + 1 * 0 = t.val; rw [hi.1]; omega
    | ⟨1, _⟩ => show win0_1.index t 1 * 1 + 1 * 0 = 0; rw [hi.2.1]
    | ⟨2, _⟩ => show win0_1.index t 2 * 10000 + 1 * k.val = k.val; rw [hi.2.2]; omega
  rw [h, V_ids]
  refine (shapeCast_apply (s := S100000) _ _ (k := ix1 n) (j := ix3 ⟨t.val, ht⟩ 0 k) ?_).trans rfl
  rw [Shape.rowMajor_val_one, Shape.rowMajor_val_three]
  show n.val = (t.val * 1 + 0) * 10000 + k.val
  omega

/-- The weights' block is the weights. -/
theorem iblk2 (c : Dev nD) (t : Fin cfg0.N) (k j : Fin 128) :
    (iblk m c 2 t : Vec F S128x128 .f32) (ix2 k j) = (m ((c : Thread nD τ).loc main_arg2) : Vec F S128x128 .f32) (ix2 k j) := by
  have hi := idx2 t
  unfold iblk
  rw [View.read_apply]
  show V m c main_arg2 _ = m (c.tc.loc main_arg2) _
  rw [V_main_arg2]
  congr 1
  funext a
  apply Fin.ext
  match a with
  | ⟨0, _⟩ => show win0_2.index t 0 * 128 + 1 * k.val = k.val; rw [hi.1]; omega
  | ⟨1, _⟩ => show win0_2.index t 1 * 128 + 1 * j.val = j.val; rw [hi.2]; omega

/-- The bias's block is the bias. -/
theorem iblk3 (c : Dev nD) (t : Fin cfg0.N) (k : Fin 128) :
    (iblk m c 3 t : Vec F S1x128 .f32) (ix2 0 k) = (m ((c : Thread nD τ).loc main_arg3) : Vec F S128 .f32) (ix1 k) := by
  have hi := idx3 t
  have h : (iblk m c 3 t : Vec F S1x128 .f32) (ix2 0 k) = (V m c main_call0_v2 : Vec F S1x128 .f32) (ix2 0 k) := by
    unfold iblk
    rw [View.read_apply]
    show V m c main_call0_v2 _ = V m c main_call0_v2 _
    congr 1
    funext a
    apply Fin.ext
    match a with
    | ⟨0, _⟩ => show win0_3.index t 0 * 1 + 1 * 0 = 0; rw [hi.1]
    | ⟨1, _⟩ => show win0_3.index t 1 * 128 + 1 * k.val = k.val; rw [hi.2]; omega
  rw [h, V_b]
  pointwise

/-- The query's block is the query. -/
theorem iblk4 (c : Dev nD) (t : Fin cfg0.N) (k : Fin 128) :
    (iblk m c 4 t : Vec F S1x128 .f32) (ix2 0 k) = (m ((c : Thread nD τ).loc main_arg4) : Vec F S128 .f32) (ix1 k) := by
  have hi := idx4 t
  have h : (iblk m c 4 t : Vec F S1x128 .f32) (ix2 0 k) = (V m c main_call0_v3 : Vec F S1x128 .f32) (ix2 0 k) := by
    unfold iblk
    rw [View.read_apply]
    show V m c main_call0_v3 _ = V m c main_call0_v3 _
    congr 1
    funext a
    apply Fin.ext
    match a with
    | ⟨0, _⟩ => show win0_4.index t 0 * 1 + 1 * 0 = 0; rw [hi.1]
    | ⟨1, _⟩ => show win0_4.index t 1 * 128 + 1 * k.val = k.val; rw [hi.2]; omega
  rw [h, V_q]
  pointwise

end Cert.KernelIdeal.Block
-- ==== Proof.Softmax.lean ====
module

public import Idealize.ShloMosaic.Lib.IdealHost
public import Idealize.ShloMosaic.PureOps.Ideal.Laws

/-! Softmax pooling over the extended reals, one block of rows at a time: the sums it keeps, and how
    folding in one more block changes them. No kernel term occurs here. -/

@[expose] public section

noncomputable section

namespace Cert.SegSoftmax

open Idealize.ShloMosaic

/-- A nonnegative real factor moves inside a sum of extended reals. -/
theorem sum_mul_coe {ι : Type*} (A : Finset ι) (f : ι → EReal) {c : ℝ} (hc : 0 ≤ c) :
    (∑ i ∈ A, f i) * (c : EReal) = ∑ i ∈ A, f i * (c : EReal) := by
  classical
  induction A using Finset.induction_on with
  | empty => simp
  | insert a A ha ih =>
    rw [Finset.sum_insert ha, Finset.sum_insert ha,
      EReal.right_distrib_of_nonneg_of_ne_top (by exact_mod_cast hc) (EReal.coe_ne_top c), ih]

/-- A sum of reals read as extended reals is the real sum. -/
theorem coe_sum {ι : Type*} (A : Finset ι) (f : ι → ℝ) :
    ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- The sum over the first `b * (k + 1)` numbers is the sum over the first `b * k` plus a block of `b`. -/
theorem sum_range_block (F : ℕ → EReal) (b k : ℕ) :
    ∑ n ∈ Finset.range (b * (k + 1)), F n
      = ∑ n ∈ Finset.range (b * k), F n + ∑ r : Fin b, F (b * k + r) := by
  rw [Nat.mul_succ, Finset.sum_range_add, Fin.sum_univ_eq_sum_range (fun r => F (b * k + r))]

section Block

variable {B : ℕ} (s : Fin B → EReal) (mem : Fin B → Prop) [DecidablePred mem] (mo : EReal)

/-- The largest score of a block. -/
def blkMax : EReal := Finset.univ.fold max ⊥ s

/-- The weight of a block's row: the exponential of its score under the block's largest, if the row
    is a member. -/
def blkExp (r : Fin B) : EReal := if mem r then Ideal.exp (s r - blkMax s) else 0

/-- The shift a block proposes. -/
def blkTop : EReal := blkMax s + Ideal.log (Finset.univ.fold max ⊥ (blkExp s mem))

/-- The shift after the block. -/
def newMax : EReal := max mo (blkTop s mem)

/-- What the sums kept so far are multiplied by. -/
def oldScale : EReal := Ideal.exp (mo - newMax s mem mo)

/-- What a block's own sums are multiplied by, twice. -/
def newScale : EReal :=
  Ideal.exp (((1 / 2 : ℝ) : EReal) * min (blkMax s - newMax s mem mo) ((104 : ℝ) : EReal))

/-- A kept sum after the block, the rows carrying the values `x`. -/
def step (T : EReal) (x : Fin B → EReal) : EReal :=
  T * oldScale s mem mo + (∑ r, blkExp s mem r * x r) * newScale s mem mo * newScale s mem mo

variable {s mem}

/-- Every score is at most the largest. -/
theorem le_blkMax (r : Fin B) : s r ≤ blkMax s :=
  (Finset.le_fold_max (s r)).2 (Or.inr ⟨r, Finset.mem_univ r, le_rfl⟩)

/-- In a block with a row, the largest of a family is one of its values. -/
theorem exists_fold_max (hB : 0 < B) (f : Fin B → EReal) :
    ∃ r, Finset.univ.fold max ⊥ f = f r ∧ ∀ r', f r' ≤ f r := by
  haveI : Nonempty (Fin B) := ⟨⟨0, hB⟩⟩
  obtain ⟨r, -, hr⟩ := Finset.exists_max_image (Finset.univ : Finset (Fin B)) f Finset.univ_nonempty
  refine ⟨r, le_antisymm ?_ ?_, fun r' => hr r' (Finset.mem_univ r')⟩
  · exact (Finset.fold_max_le (f r)).2 ⟨bot_le, fun r' _ => hr r' (Finset.mem_univ r')⟩
  · exact (Finset.le_fold_max (f r)).2 (Or.inr ⟨r, Finset.mem_univ r, le_rfl⟩)

/-- A block none of whose rows is a member changes the shift not at all. -/
theorem newMax_of_forall_not (hB : 0 < B) (h : ∀ r, blkExp s mem r = 0) : newMax s mem mo = mo := by
  obtain ⟨r, hr, -⟩ := exists_fold_max hB (blkExp s mem)
  have : blkTop s mem = ⊥ := by
    unfold blkTop
    rw [hr, h r]
    rw [← EReal.coe_zero, Ideal.log_coe, if_pos le_rfl, EReal.add_bot]
  unfold newMax
  rw [this, max_eq_left bot_le]

/-- A block whose weights are all zero adds nothing to a kept sum, which is only rescaled. -/
theorem step_of_zero (h : ∀ r, blkExp s mem r = 0) (T : EReal) (x : Fin B → EReal) :
    step s mem mo T x = T * oldScale s mem mo := by
  unfold step
  simp [h]

/-- Where every score of the block is the same infinity every weight is zero. -/
theorem blkExp_of_infinite (hB : 0 < B) (h : (∀ r, s r = ⊤) ∨ ∀ r, s r = ⊥) (r : Fin B) :
    blkExp s mem r = 0 := by
  obtain ⟨r0, hr0, -⟩ := exists_fold_max hB s
  have : s r - blkMax s = ⊥ := by
    unfold blkMax
    rw [hr0]
    rcases h with h | h <;> rw [h r, h r0] <;> rfl
  unfold blkExp
  rw [this]
  simp

end Block

section Real

variable {B : ℕ} (σ : Fin B → ℝ) (mem : Fin B → Prop) [DecidablePred mem] (μ : ℝ)

/-- One block of real scores no two of which are more than 104 apart: the shift stays real, the kept
    sums are rescaled to the new shift, and the block's members join them at that shift. -/
theorem step_real (hB : 0 < B) (hclose : ∀ r r', σ r - σ r' ≤ 104) :
    ∃ μ' : ℝ, newMax (fun r => (σ r : EReal)) mem μ = (μ' : EReal)
      ∧ ∀ (T : EReal) (x : Fin B → EReal), step (fun r => (σ r : EReal)) mem μ T x
          = T * (Real.exp (μ - μ') : EReal)
            + ∑ r, if mem r then (Real.exp (σ r - μ') : EReal) * x r else 0 := by
  set s : Fin B → EReal := fun r => (σ r : EReal) with hs
  by_cases hmem : ∃ r, mem r
  · obtain ⟨r1, hr1, hle1⟩ := exists_fold_max hB s
    have hmb : blkMax s = (σ r1 : EReal) := hr1
    have hexp : ∀ r, mem r → blkExp s mem r = (Real.exp (σ r - σ r1) : EReal) := by
      intro r hr
      unfold blkExp
      rw [if_pos hr, hmb, hs]
      simp only [← EReal.coe_sub, Ideal.exp_coe]
    have hzero : ∀ r, ¬ mem r → blkExp s mem r = 0 := fun r hr => by unfold blkExp; rw [if_neg hr]
    obtain ⟨r0, hr0, hle0⟩ := exists_fold_max hB (blkExp s mem)
    have hm0 : mem r0 := by
      by_contra hn
      obtain ⟨r, hr⟩ := hmem
      have := hle0 r
      rw [hzero r0 hn, hexp r hr] at this
      exact absurd (EReal.coe_le_coe_iff.1 (by simpa using this)) (not_le.2 (Real.exp_pos _))
    have htop : blkTop s mem = (σ r0 : EReal) := by
      unfold blkTop
      rw [hr0, hexp r0 hm0, Ideal.log_coe, if_neg (not_le.2 (Real.exp_pos _)), Real.log_exp, hmb,
        ← EReal.coe_add]
      congr 1
      ring
    refine ⟨max μ (σ r0), ?_, ?_⟩
    · unfold newMax
      rw [htop]
      exact (EReal.coe_strictMono.monotone.map_max).symm
    · intro T x
      have hnew : newMax s mem μ = ((max μ (σ r0) : ℝ) : EReal) := by
        unfold newMax
        rw [htop]
        exact (EReal.coe_strictMono.monotone.map_max).symm
      have hle : σ r1 - max μ (σ r0) ≤ 104 :=
        (sub_le_sub_left (le_max_right _ _) _).trans (hclose r1 r0)
      have hold : oldScale s mem μ = (Real.exp (μ - max μ (σ r0)) : EReal) := by
        unfold oldScale
        rw [hnew, ← EReal.coe_sub, Ideal.exp_coe]
      have hns : newScale s mem μ = (Real.exp (1 / 2 * (σ r1 - max μ (σ r0))) : EReal) := by
        unfold newScale
        rw [hnew, hmb, ← EReal.coe_sub, min_eq_left (EReal.coe_le_coe_iff.2 hle), ← EReal.coe_mul,
          Ideal.exp_coe]
      unfold step
      rw [hold, hns, mul_assoc (∑ r, _), ← EReal.coe_mul, ← Real.exp_add,
        sum_mul_coe _ _ (Real.exp_pos _).le]
      congr 1
      refine Finset.sum_congr rfl fun r _ => ?_
      by_cases hr : mem r
      · rw [if_pos hr, hexp r hr, mul_right_comm, ← EReal.coe_mul, ← Real.exp_add]
        congr 3
        ring
      · rw [if_neg hr, hzero r hr, zero_mul, zero_mul]
  · have hno : ∀ r, ¬ mem r := fun r hr => hmem ⟨r, hr⟩
    have hz : ∀ r, blkExp s mem r = 0 := fun r => by unfold blkExp; rw [if_neg (hno r)]
    refine ⟨μ, newMax_of_forall_not _ hB hz, fun T x => ?_⟩
    rw [step_of_zero _ hz]
    unfold oldScale
    rw [newMax_of_forall_not _ hB hz, ← EReal.coe_sub, Ideal.exp_coe]
    simp [hno]

end Real

section Fold

/-- The weighted sum over the members among the first `n` rows, at the shift `μ`. -/
def keptSum (r : ℕ → ℝ) (mem : ℕ → Prop) [DecidablePred mem] (x : ℕ → EReal) (n : ℕ) (μ : ℝ) : EReal :=
  ∑ k ∈ Finset.range n, if mem k then (Real.exp (r k - μ) : EReal) * x k else 0

/-- Changing the shift multiplies the weighted sum by a real. -/
theorem keptSum_shift (r : ℕ → ℝ) (mem : ℕ → Prop) [DecidablePred mem] (x : ℕ → EReal) (n : ℕ) (μ μ' : ℝ) :
    keptSum r mem x n μ * (Real.exp (μ - μ') : EReal) = keptSum r mem x n μ' := by
  unfold keptSum
  rw [sum_mul_coe _ _ (Real.exp_pos _).le]
  refine Finset.sum_congr rfl fun k _ => ?_
  by_cases h : mem k
  · rw [if_pos h, if_pos h, mul_right_comm, ← EReal.coe_mul, ← Real.exp_add]
    congr 3
    ring
  · rw [if_neg h, if_neg h, zero_mul]

/-- Block `t` of real scores takes the weighted sums over the first `B * t` rows to those over the
    first `B * (t + 1)`. -/
theorem step_keptSum {B : ℕ} (hB : 0 < B) (t : ℕ) (r : ℕ → ℝ) (mem : ℕ → Prop) [DecidablePred mem] (μ : ℝ)
    (s : Fin B → EReal) (hs : ∀ k : Fin B, s k = (r (B * t + k) : EReal))
    (hclose : ∀ i j : Fin B, r (B * t + i) - r (B * t + j) ≤ 104) :
    ∃ μ' : ℝ, newMax s (fun k : Fin B => mem (B * t + k)) μ = (μ' : EReal)
      ∧ ∀ x : ℕ → EReal, step s (fun k : Fin B => mem (B * t + k)) μ (keptSum r mem x (B * t) μ)
          (fun k : Fin B => x (B * t + k)) = keptSum r mem x (B * (t + 1)) μ' := by
  obtain rfl : s = fun k : Fin B => (r (B * t + k) : EReal) := funext hs
  obtain ⟨μ', h1, h2⟩ := step_real (fun k : Fin B => r (B * t + k)) (fun k : Fin B => mem (B * t + k)) μ hB hclose
  refine ⟨μ', h1, fun x => ?_⟩
  rw [h2, keptSum_shift]
  unfold keptSum
  rw [sum_range_block]

end Fold

section Pool

/-- A zero denominator is replaced by one. -/
def guardDen (d : EReal) : EReal := if d = 0 then 1 else d

variable {N : ℕ} (s : Fin N → EReal) (mem : Fin N → Prop) [DecidablePred mem] (x : Fin N → EReal) (M : EReal)

/-- The sum of the members' exponentials at the shift `M`. -/
def poolDen : EReal := ∑ n, if mem n then Ideal.exp (s n - M) else 0

/-- Softmax pooling: the members' values, each times its exponential over the denominator. -/
def pool : EReal := ∑ n, if mem n then Ideal.div (Ideal.exp (s n - M)) (guardDen (poolDen s mem M)) * x n else 0

/-- The largest score among the members, minus infinity where there is none. -/
def memMax : EReal := Finset.univ.fold max ⊥ fun n => if mem n then s n else ⊥

/-- The shift softmax pooling uses: the largest member score, zero where that is infinite. -/
def poolShift : EReal := if max (memMax s mem) (-memMax s mem) < ⊤ then memMax s mem else 0

variable {s mem}

/-- Dividing a real by a nonzero real is the real quotient. -/
theorem div_coe_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Pooling real scores with a real shift is the quotient of the weighted sums at any other shift. -/
theorem pool_real (r : ℕ → ℝ) (mem : ℕ → Prop) [DecidablePred mem] (x : ℕ → EReal) (μ : ℝ)
    (hs : ∀ n : Fin N, s n = (r n : EReal)) (hM : (∃ n : Fin N, mem n) → ∃ ν : ℝ, M = (ν : EReal)) :
    pool s (fun n : Fin N => mem n) (fun n => x n) M
      = Ideal.div (keptSum r mem x N μ) (guardDen (keptSum r mem (fun _ => 1) N μ)) := by
  by_cases hmem : ∃ n : Fin N, mem n
  · obtain ⟨ν, rfl⟩ := hM hmem
    have hpos : ∀ ρ : ℝ, 0 < ∑ n : Fin N, if mem n then Real.exp (r n - ρ) else 0 := by
      intro ρ
      obtain ⟨n, hn⟩ := hmem
      refine Finset.sum_pos' (fun k _ => ?_) ⟨n, Finset.mem_univ n, ?_⟩
      · split_ifs
        · exact (Real.exp_pos _).le
        · exact le_rfl
      · rw [if_pos hn]
        exact Real.exp_pos _
    have hkept : ∀ ρ : ℝ, keptSum r mem (fun _ => 1) N ρ
        = ((∑ n : Fin N, if mem n then Real.exp (r n - ρ) else 0 : ℝ) : EReal) := by
      intro ρ
      unfold keptSum
      rw [coe_sum, ← Fin.sum_univ_eq_sum_range (fun k => if mem k then (Real.exp (r k - ρ) : EReal) * 1 else 0)]
      refine Finset.sum_congr rfl fun n _ => ?_
      split_ifs <;> simp
    have hden : poolDen s (fun n : Fin N => mem n) (ν : EReal) = keptSum r mem (fun _ => 1) N ν := by
      unfold poolDen keptSum
      rw [← Fin.sum_univ_eq_sum_range (fun k => if mem k then (Real.exp (r k - ν) : EReal) * 1 else 0)]
      refine Finset.sum_congr rfl fun n _ => ?_
      rw [hs n, ← EReal.coe_sub, Ideal.exp_coe, mul_one]
    have hguard : ∀ ρ : ℝ, guardDen (keptSum r mem (fun _ => 1) N ρ) = keptSum r mem (fun _ => 1) N ρ := by
      intro ρ
      unfold guardDen
      rw [if_neg]
      rw [hkept]
      exact_mod_cast (hpos ρ).ne'
    have hshift : (∑ n : Fin N, if mem n then Real.exp (r n - μ) else 0)
        = (∑ n : Fin N, if mem n then Real.exp (r n - ν) else 0) * Real.exp (ν - μ) := by
      rw [Finset.sum_mul]
      refine Finset.sum_congr rfl fun n _ => ?_
      split_ifs
      · rw [← Real.exp_add]
        congr 1
        ring
      · rw [zero_mul]
    unfold pool
    rw [hden, hguard, hguard, hkept, hkept]
    conv_rhs => unfold Ideal.div
    rw [if_neg (by exact_mod_cast (hpos μ).ne'), ← EReal.coe_inv]
    unfold keptSum
    rw [sum_mul_coe _ _ (inv_nonneg.2 (hpos μ).le),
      ← Fin.sum_univ_eq_sum_range (fun k => (if mem k then (Real.exp (r k - μ) : EReal) * x k else 0) * _)]
    refine Finset.sum_congr rfl fun n _ => ?_
    by_cases hn : mem n
    · rw [if_pos hn, if_pos hn, hs n, ← EReal.coe_sub, Ideal.exp_coe, div_coe_coe _ _ (hpos ν).ne',
        mul_right_comm, ← EReal.coe_mul]
      congr 2
      rw [hshift, ← div_eq_mul_inv, div_eq_div_iff (hpos ν).ne' (mul_pos (hpos ν) (Real.exp_pos _)).ne',
        show r n - μ = (r n - ν) + (ν - μ) by ring, Real.exp_add]
      ring
    · rw [if_neg hn, if_neg hn, zero_mul]
  · have hno : ∀ n : Fin N, ¬ mem n := fun n hn => hmem ⟨n, hn⟩
    have hk : ∀ y : ℕ → EReal, keptSum r mem y N μ = 0 := by
      intro y
      unfold keptSum
      exact Finset.sum_eq_zero fun n hn => if_neg (hno ⟨n, Finset.mem_range.1 hn⟩)
    unfold pool guardDen
    rw [hk, hk]
    simp [hno, Ideal.div]

/-- Where the scores are real the shift is the largest member score, a real, as soon as there is a member. -/
theorem poolShift_real (r : Fin N → ℝ) (hs : ∀ n, s n = (r n : EReal)) (hmem : ∃ n, mem n) :
    ∃ ν : ℝ, poolShift s mem = (ν : EReal) := by
  obtain ⟨n, hn⟩ := hmem
  obtain ⟨n0, h0, hle⟩ := exists_fold_max (Nat.lt_of_le_of_lt (Nat.zero_le _) n.isLt)
    (fun n => if mem n then s n else ⊥)
  have hm0 : mem n0 := by
    by_contra hc
    have := hle n
    simp only [if_pos hn, if_neg hc, hs n] at this
    exact EReal.coe_ne_bot _ (le_bot_iff.1 this)
  have hmax : memMax s mem = (r n0 : EReal) := by
    unfold memMax
    rw [h0, if_pos hm0, hs n0]
  refine ⟨r n0, ?_⟩
  unfold poolShift
  rw [hmax, if_pos (max_lt (EReal.coe_lt_top _) (by rw [← EReal.coe_neg]; exact EReal.coe_lt_top _))]

/-- Pooling scores that are all the same infinity gives zero. -/
theorem pool_infinite (h : (∀ n, s n = ⊤) ∨ ∀ n, s n = ⊥) : pool s mem x (poolShift s mem) = 0 := by
  unfold pool
  refine Finset.sum_eq_zero fun n _ => ?_
  by_cases hn : mem n
  swap
  · exact if_neg hn
  rw [if_pos hn]
  have hsh : poolShift s mem = 0 := by
    obtain ⟨n0, h0, hle⟩ := exists_fold_max (Nat.lt_of_le_of_lt (Nat.zero_le _) n.isLt)
      (fun n => if mem n then s n else ⊥)
    have : memMax s mem = ⊤ ∨ memMax s mem = ⊥ := by
      unfold memMax
      rw [h0]
      rcases h with h | h
      · left
        have := hle n
        simp only [if_pos hn, h n] at this
        exact top_le_iff.1 this
      · right
        simp [h]
    unfold poolShift
    rcases this with h | h <;> rw [h] <;> simp
  rw [hsh, sub_zero]
  rcases h with h | h
  · have hden : poolDen s mem 0 = ⊤ := by
      unfold poolDen
      rw [← Finset.add_sum_erase _ _ (Finset.mem_univ n), if_pos hn, h n, sub_zero, Ideal.exp_top,
        EReal.top_add_of_ne_bot]
      refine ne_of_gt (lt_of_lt_of_le EReal.bot_lt_zero (Finset.sum_nonneg fun k _ => ?_))
      split_ifs
      · rw [h k, sub_zero, Ideal.exp_top]
        exact le_top
      · exact le_rfl
    rw [hden, h n, Ideal.exp_top]
    simp [guardDen, Ideal.div]
  · have hg : guardDen (poolDen s mem 0) = 1 := by
      have : poolDen s mem 0 = 0 := by
        unfold poolDen
        refine Finset.sum_eq_zero fun k _ => ?_
        split_ifs
        · rw [h k, sub_zero, Ideal.exp_bot]
        · rfl
      rw [this]
      simp [guardDen]
    rw [hg, h n, Ideal.exp_bot]
    simp [Ideal.div]

end Pool

section Spread

/-- The least score. -/
def scoreMin {N : ℕ} (s : Fin N → EReal) : EReal := Finset.univ.fold min ⊤ s

/-- Scores whose largest is at most 104 above the least are real with pairwise differences at most 104,
    or all the same infinity. -/
theorem spread_cases {N : ℕ} (s : Fin N → EReal) (h : blkMax s - scoreMin s ≤ ((104 : ℝ) : EReal)) :
    (∃ r : Fin N → ℝ, (∀ n, s n = (r n : EReal)) ∧ ∀ i j, r i - r j ≤ 104) ∨ (∀ n, s n = ⊤) ∨ ∀ n, s n = ⊥ := by
  have hmin : ∀ n, scoreMin s ≤ s n := fun n =>
    (Finset.fold_min_le (s n)).2 (Or.inr ⟨n, Finset.mem_univ n, le_rfl⟩)
  have hmax : ∀ n, s n ≤ blkMax s := le_blkMax
  by_cases htop : blkMax s = ⊤
  · have : scoreMin s = ⊤ := by
      by_contra hne
      rw [htop, EReal.top_sub hne] at h
      exact EReal.coe_ne_top _ (top_le_iff.1 h)
    exact Or.inr (Or.inl fun n => top_le_iff.1 (this ▸ hmin n))
  · by_cases hbot : scoreMin s = ⊥
    · have : blkMax s = ⊥ := by
        by_contra hne
        rw [hbot, sub_eq_add_neg, EReal.neg_bot, EReal.add_top_of_ne_bot hne] at h
        exact EReal.coe_ne_top _ (top_le_iff.1 h)
      exact Or.inr (Or.inr fun n => le_bot_iff.1 (this ▸ hmax n))
    · have hreal : ∀ n, s n = ((s n).toReal : EReal) := fun n =>
        (EReal.coe_toReal (fun e => htop (top_le_iff.1 (e ▸ hmax n))) (fun e => hbot (le_bot_iff.1 (e ▸ hmin n)))).symm
      refine Or.inl ⟨fun n => (s n).toReal, hreal, fun i j => ?_⟩
      have := (EReal.sub_le_sub (hmax i) (hmin j)).trans h
      rw [hreal i, hreal j, ← EReal.coe_sub] at this
      exact EReal.coe_le_coe_iff.1 this

end Spread

end Cert.SegSoftmax
-- ==== Proof.Score.lean ====
module

public import proofs.«01_k».proof.Proof.Softmax

/-! The score of a row, the numbers behind the bit patterns the programs use, and a selection on an
    equality of words. -/

@[expose] public section

noncomputable section

namespace Cert.SegSoftmax

open Idealize.ShloMosaic

/-- The score of a row: the tanh layer, then the product with the query. -/
def score (x : Fin 128 → EReal) (W : Fin 128 → Fin 128 → EReal) (b q : Fin 128 → EReal) : EReal :=
  ∑ k, Ideal.tanh (∑ j, x j * W k j + b k) * q k

/-- The bits of 104 denote 104. -/
theorem ofBits_104 : Ideal.ofBits .f32 0x42D00000#32 = ((104 : ℝ) : EReal) := by
  simp [Ideal.ofBits, Ideal.ieee, ← EReal.coe_mul]
  norm_num

/-- The bits of one half denote one half. -/
theorem ofBits_half : Ideal.ofBits .f32 0x3F000000#32 = ((1 / 2 : ℝ) : EReal) := by
  simp [Ideal.ofBits, Ideal.ieee, ← EReal.coe_mul]
  norm_num

/-- The pattern of minus infinity denotes it. -/
theorem ofBits_neg_inf : Ideal.ofBits .f32 0xFF800000#32 = ⊥ := by simp [Ideal.ofBits, Ideal.ieee]

/-- The pattern of plus infinity denotes it. -/
theorem ofBits_inf : Ideal.ofBits .f32 0x7F800000#32 = ⊤ := by simp [Ideal.ofBits, Ideal.ieee]

/-- The bits of zero denote zero. -/
theorem ofBits_zero : Ideal.ofBits .f32 0x00000000#32 = 0 := by simp [Ideal.ofBits, Ideal.ieee]

/-- The bits of one denote one. -/
theorem ofBits_one : Ideal.ofBits .f32 0x3F800000#32 = 1 := by
  simp [Ideal.ofBits, Ideal.ieee, ← EReal.coe_mul]
  norm_num

/-- The short pattern of minus infinity denotes it. -/
theorem ofBits_neg_inf_short : Ideal.ofBits .bf16 0xFF80#16 = ⊥ := by simp [Ideal.ofBits, Ideal.ieee]

/-- The number the kernel starts its shifts at is a real. -/
theorem ofBits_start : ∃ μ : ℝ, Ideal.ofBits .f32 0xF149F2CA#32 = (μ : EReal) := by
  unfold Ideal.ofBits Ideal.ieee
  simp only
  rw [if_neg (by decide), if_neg (by decide)]
  exact ⟨_, rfl⟩

/-- A selection on an equality of words is a case distinction. -/
theorem select_eq {w : ℕ} (a b : BitVec w) (x y : EReal) :
    Scalar.select (IntOp.cmpi CmpIPredicate.eq a b) x y = if a = b then x else y := by
  by_cases h : a = b
  · simp [Scalar.select, IntOp.cmpi, h]
  · have : (a == b) = false := beq_eq_false_iff_ne.2 h
    simp [Scalar.select, IntOp.cmpi, h, this]

end Cert.SegSoftmax
-- ==== Proof.Block.lean ====
module

public import proofs.«01_k».proof.Proof.Gen.KernelIdeal.Skeleton
public import proofs.«01_k».proof.Proof.Score
public import Idealize.ShloMosaic.Lib.Pointwise

/-! What one block of the kernel computes, read at an index: its scores, and the updates of the three
    kept arrays as the abstract step of softmax pooling. -/

@[expose] public section

noncomputable section

namespace Cert.KernelIdeal.Block

open Cert.KernelIdeal Cert.KernelIdeal.Gen Idealize.ShloMosaic Cert.SegSoftmax

set_option maxRecDepth 16384

variable (x : Vec Ideal S10000x128 .f32) (ids : Vec Ideal S1x1x10000 .i16) (W : Vec Ideal S128x128 .f32)
  (b q : Vec Ideal S1x128 .f32)

/-- The block's scores. -/
def scores (r : Fin 10000) : EReal :=
  score (fun j => x (ix2 r j)) (fun k j => W (ix2 k j)) (fun k => b (ix2 0 k)) (fun k => q (ix2 0 k))

/-- Membership of the block's rows in graph `g`. -/
abbrev Mem (g : Fin 256) (r : Fin 10000) : Prop := BitVec.ofNat 16 g.val = (ids (ix3 0 0 r) : BitVec 16)

/-- The score row holds the block's scores. -/
theorem pay5_apply (r : Fin 10000) : k0_pay5 (F := Ideal) x W b q (ix2 0 r) = scores x W b q r := by
  unfold scores score
  pointwise [k0_pay5]
  exact Finset.sum_congr rfl fun k _ => mul_comm _ _

/-- The block's largest score. -/
theorem pay6_apply : k0_pay6 (F := Ideal) x W b q (ix2 0 0) = blkMax (scores x W b q) := by
  have h := pay5_apply x W b q
  generalize k0_pay5 x W b q = s at h
  have : k0_pay6 (F := Ideal) x W b q (ix2 0 0) = Finset.fold max ⊥ (fun r => k0_pay5 x W b q (ix2 0 r)) Finset.univ := by
    rw [← ofBits_neg_inf]
    pointwise [k0_pay6]
  rw [this]
  unfold blkMax
  exact Finset.fold_congr fun r _ => pay5_apply x W b q r

/-- The block's weights. -/
theorem pay7_apply (g : Fin 256) (r : Fin 10000) :
    k0_pay7 (F := Ideal) x W b q ids (ix2 g r) = blkExp (scores x W b q) (Mem ids g) r := by
  have : k0_pay7 (F := Ideal) x W b q ids (ix2 g r)
      = Scalar.select (IntOp.cmpi CmpIPredicate.eq (BitVec.ofNat 16 g.val) (ids (ix3 0 0 r)))
        (Ideal.exp (k0_pay5 x W b q (ix2 0 r) - k0_pay6 x W b q (ix2 0 0))) 0 := by
    pointwise [k0_pay7]
  rw [this, pay5_apply, pay6_apply]
  unfold blkExp
  exact select_eq _ _ _ _

/-- The shift the block proposes. -/
theorem pay8_apply (g : Fin 256) :
    k0_pay8 (F := Ideal) x W b q ids (ix2 g 0) = blkTop (scores x W b q) (Mem ids g) := by
  have : k0_pay8 (F := Ideal) x W b q ids (ix2 g 0) = k0_pay6 x W b q (ix2 0 0) +
      Ideal.log (Finset.fold max ⊥ (fun r => k0_pay7 x W b q ids (ix2 g r)) Finset.univ) := by
    rw [← ofBits_neg_inf_short]
    pointwise [k0_pay8]
  rw [this, pay6_apply]
  unfold blkTop
  congr 2
  exact Finset.fold_congr fun r _ => pay7_apply x ids W b q g r

variable (mo : Vec Ideal S256x1 .f32) (g : Fin 256)

/-- The kept shifts after the block. -/
theorem pay9_apply : k0_pay9 (F := Ideal) (k0_pay8 x W b q ids) mo (ix2 g 0)
    = newMax (scores x W b q) (Mem ids g) (mo (ix2 g 0)) := by
  unfold newMax
  rw [← pay8_apply]
  generalize k0_pay8 x W b q ids = bm
  pointwise [k0_pay9]

/-- The kept shifts as stored. -/
theorem pay14_apply : k0_pay14 (F := Ideal) (k0_pay8 x W b q ids) mo (ix2 g 0)
    = newMax (scores x W b q) (Mem ids g) (mo (ix2 g 0)) := by
  rw [← pay9_apply]
  generalize k0_pay8 x W b q ids = bm
  pointwise [k0_pay14]

/-- The factor of the sums kept so far. -/
theorem pay10_apply : k0_pay10 (F := Ideal) (k0_pay8 x W b q ids) mo (ix2 g 0)
    = oldScale (scores x W b q) (Mem ids g) (mo (ix2 g 0)) := by
  unfold oldScale
  rw [← pay9_apply]
  generalize k0_pay8 x W b q ids = bm
  pointwise [k0_pay10]

/-- The factor of the block's own sums. -/
theorem pay11_apply : k0_pay11 (F := Ideal) (k0_pay6 x W b q) (k0_pay8 x W b q ids) mo (ix2 g 0)
    = newScale (scores x W b q) (Mem ids g) (mo (ix2 g 0)) := by
  unfold newScale
  rw [← pay9_apply, ← pay6_apply, ← ofBits_104, ← ofBits_half]
  generalize k0_pay8 x W b q ids = bm
  generalize k0_pay6 x W b q = mb
  pointwise [k0_pay11]

/-- The kept denominators after the block. -/
theorem pay12_apply (dold : Vec Ideal S256x1 .f32) :
    k0_pay12 (F := Ideal) (k0_pay6 x W b q) (k0_pay7 x W b q ids) (k0_pay8 x W b q ids) mo dold (ix2 g 0)
      = step (scores x W b q) (Mem ids g) (mo (ix2 g 0)) (dold (ix2 g 0)) fun _ => 1 := by
  unfold step
  simp only [← pay10_apply, ← pay11_apply, ← pay7_apply, mul_one]
  generalize k0_pay8 x W b q ids = bm
  generalize k0_pay7 x W b q ids = ef
  generalize k0_pay6 x W b q = mb
  pointwise [k0_pay12]

/-- The kept weighted sums after the block. -/
theorem pay13_apply (sold : Vec Ideal S256x128 .f32) (j : Fin 128) :
    k0_pay13 (F := Ideal) (k0_pay4 x) (k0_pay6 x W b q) (k0_pay7 x W b q ids) (k0_pay8 x W b q ids) mo sold (ix2 g j)
      = step (scores x W b q) (Mem ids g) (mo (ix2 g 0)) (sold (ix2 g j)) fun r => x (ix2 r j) := by
  unfold step
  simp only [← pay10_apply, ← pay11_apply, ← pay7_apply]
  generalize k0_pay8 x W b q ids = bm
  generalize k0_pay7 x W b q ids = ef
  generalize k0_pay6 x W b q = mb
  pointwise [k0_pay13, k0_pay4]

/-- The quotient the kernel ends with. -/
theorem pay15_apply (d : Vec Ideal S256x1 .f32) (s : Vec Ideal S256x128 .f32) (j : Fin 128) :
    k0_pay15 (F := Ideal) d s (ix2 g j) = Ideal.div (s (ix2 g j)) (guardDen (d (ix2 g 0))) := by
  unfold guardDen
  pointwise [k0_pay15]

/-- The shifts start at a real. -/
theorem pay1_apply : ∃ μ : ℝ, ∀ g : Fin 256, k0_pay1 (F := Ideal) (ix2 g 0) = (μ : EReal) := by
  obtain ⟨μ, hμ⟩ := ofBits_start
  refine ⟨μ, fun g => ?_⟩
  rw [← hμ]
  pointwise [k0_pay1]

/-- The denominators start at zero. -/
theorem pay2_apply : k0_pay2 (F := Ideal) (ix2 g 0) = 0 := by
  pointwise [k0_pay2]

/-- The weighted sums start at zero. -/
theorem pay3_apply (j : Fin 128) : k0_pay3 (F := Ideal) (ix2 g j) = 0 := by
  pointwise [k0_pay3]

end Cert.KernelIdeal.Block
-- ==== Proof.Fold.lean ====
module

public import proofs.«01_k».proof.Proof.Chain
public import proofs.«01_k».proof.Proof.Host
public import proofs.«01_k».proof.Proof.Block

/-! The kept arrays after each point, entry by entry: one step of softmax pooling per block of rows. -/

@[expose] public section

noncomputable section

open Idealize.ShloMosaic Idealize.ShloMosaic.TcCoe Idealize.SL.Sem

namespace Cert.SegSoftmax

/-- The shift after a block depends on the scores and the membership alone. -/
theorem newMax_congr {B : ℕ} {s s' : Fin B → EReal} {mem mem' : Fin B → Prop} [DecidablePred mem] [DecidablePred mem']
    (hs : s = s') (hm : ∀ r, mem r ↔ mem' r) (mo : EReal) : newMax s mem mo = newMax s' mem' mo := by
  subst hs
  obtain rfl : mem = mem' := funext fun r => propext (hm r)
  congr!

/-- A step depends on the scores, the membership and the values alone. -/
theorem step_congr {B : ℕ} {s s' : Fin B → EReal} {mem mem' : Fin B → Prop} [DecidablePred mem] [DecidablePred mem']
    (hs : s = s') (hm : ∀ r, mem r ↔ mem' r) (mo T : EReal) {x x' : Fin B → EReal} (hx : x = x') :
    step s mem mo T x = step s' mem' mo T x' := by
  subst hs hx
  obtain rfl : mem = mem' := funext fun r => propext (hm r)
  congr!

end Cert.SegSoftmax

namespace Cert.KernelIdeal.Block

open Cert.KernelIdeal Cert.KernelIdeal.Gen Cert.SegSoftmax

variable (m : (ℓ : Loc nD τ sig) → Buf (Elt Ideal) ℓ) (c : Dev nD)
  (x : Vec Ideal S100000x128 .f32) (ids : IVec S100000 32) (W : Vec Ideal S128x128 .f32) (b q : Vec Ideal S128 .f32)

/-- The arguments' contents, named. -/
structure Args : Prop where
  x_eq : m ((c : Thread nD τ).loc main_arg0) = x
  ids_eq : m ((c : Thread nD τ).loc main_arg1) = ids
  W_eq : m ((c : Thread nD τ).loc main_arg2) = W
  b_eq : m ((c : Thread nD τ).loc main_arg3) = b
  q_eq : m ((c : Thread nD τ).loc main_arg4) = q

/-- The score of a row. -/
def rowScore (n : Fin 100000) : EReal :=
  score (fun j => x (ix2 n j)) (fun k j => W (ix2 k j)) (fun k => b (ix1 k)) (fun k => q (ix1 k))

/-- Membership of a row, counted in the naturals, in graph `g`. -/
def memAt (g : Fin 256) (n : ℕ) : Prop := ∃ h : n < 100000, ids (ix1 ⟨n, h⟩) = BitVec.ofNat 32 g.val

/-- A row's value in a column, the rows counted in the naturals. -/
def valAt (j : Fin 128) (n : ℕ) : EReal := if h : n < 100000 then x (ix2 ⟨n, h⟩ j) else 0

variable {m c x ids W b q}

/-- A block's scores are its rows'. -/
theorem blk_score (ha : Args m c x ids W b q) (t : Fin cfg0.N) (k : Fin 10000) (n : Fin 100000) (hn : n.val = 10000 * t.val + k.val) :
    scores (iblk m c 0 t) (iblk m c 2 t) (iblk m c 3 t) (iblk m c 4 t) k = rowScore x W b q n := by
  unfold scores rowScore
  obtain ⟨rfl, rfl, rfl, rfl, rfl⟩ := ha
  congr 1
  · exact funext fun j => iblk0 m c t k j n hn
  · exact funext fun k' => funext fun j => iblk2 m c t k' j
  · exact funext fun k' => iblk3 m c t k'
  · exact funext fun k' => iblk4 m c t k'

/-- A graph number below 256 is told by its low sixteen bits. -/
theorem word_iff (v : BitVec 32) (hv : v.toNat < 256) (g : Fin 256) :
    BitVec.ofNat 16 g.val = (BitVec.truncate 16 v : BitVec 16) ↔ v = BitVec.ofNat 32 g.val := by
  have hg := g.isLt
  constructor
  · intro h
    have := congrArg BitVec.toNat h
    simp only [BitVec.truncate_eq_setWidth, BitVec.toNat_setWidth, BitVec.toNat_ofNat] at this
    apply BitVec.eq_of_toNat_eq
    rw [BitVec.toNat_ofNat]
    omega
  · rintro rfl
    apply BitVec.eq_of_toNat_eq
    simp only [BitVec.truncate_eq_setWidth, BitVec.toNat_setWidth, BitVec.toNat_ofNat]
    omega

/-- A block's members are its rows'. -/
theorem blk_mem (ha : Args m c x ids W b q) (hids : ∀ n, (ids (ix1 n)).toNat < 256) (t : Fin cfg0.N) (g : Fin 256) (k : Fin 10000) :
    Mem (iblk m c 1 t) g k ↔ memAt ids g (10000 * t.val + k.val) := by
  have ht : t.val < 10 := lt_of_lt_of_eq t.isLt (show cfg0.N = 10 from N_0)
  have hk := k.isLt
  have hn : 10000 * t.val + k.val < 100000 := by omega
  obtain ⟨rfl, rfl, rfl, rfl, rfl⟩ := ha
  unfold Mem memAt
  rw [iblk1 m c t k ⟨_, hn⟩ rfl, word_iff _ (hids _)]
  exact ⟨fun h => ⟨hn, h⟩, fun ⟨_, h⟩ => h⟩

/-- A block's values are its rows'. -/
theorem blk_val (ha : Args m c x ids W b q) (t : Fin cfg0.N) (j : Fin 128) (k : Fin 10000) :
    (iblk m c 0 t : Vec Ideal S10000x128 .f32) (ix2 k j) = valAt x j (10000 * t.val + k.val) := by
  have ht : t.val < 10 := lt_of_lt_of_eq t.isLt (show cfg0.N = 10 from N_0)
  have hk := k.isLt
  have hn : 10000 * t.val + k.val < 100000 := by omega
  obtain ⟨rfl, rfl, rfl, rfl, rfl⟩ := ha
  unfold valAt
  rw [dif_pos hn]
  exact iblk0 m c t k j ⟨_, hn⟩ rfl

open Classical in
/-- The kept arrays hold, at graph `g`, a real shift and the members' sums over the first `n` rows at it. -/
def Holds (r : ℕ → ℝ) (g : Fin 256) (n : ℕ) (M D : Vec Ideal S256x1 .f32) (S : Vec Ideal S256x128 .f32) : Prop :=
  ∃ μ : ℝ, M (ix2 g 0) = (μ : EReal) ∧ D (ix2 g 0) = keptSum r (memAt ids g) (fun _ => 1) n μ
    ∧ ∀ j, S (ix2 g j) = keptSum r (memAt ids g) (valAt x j) n μ

/-- One block of real scores carries the kept arrays on. -/
theorem holds_next (ha : Args m c x ids W b q) (hids : ∀ n, (ids (ix1 n)).toNat < 256) (r : ℕ → ℝ)
    (hr : ∀ n : Fin 100000, rowScore x W b q n = (r n : EReal)) (hclose : ∀ i j : Fin 100000, r i - r j ≤ 104)
    (g : Fin 256) (t : Fin cfg0.N) (M D : Vec Ideal S256x1 .f32) (S : Vec Ideal S256x128 .f32)
    (h : Holds (x := x) (ids := ids) r g (10000 * t.val) M D S) :
    Holds (x := x) (ids := ids) r g (10000 * (t.val + 1))
      (nextM (iblk m c 0 t) (iblk m c 1 t) (iblk m c 2 t) (iblk m c 3 t) (iblk m c 4 t) M)
      (nextD (iblk m c 0 t) (iblk m c 1 t) (iblk m c 2 t) (iblk m c 3 t) (iblk m c 4 t) M D)
      (nextS (iblk m c 0 t) (iblk m c 1 t) (iblk m c 2 t) (iblk m c 3 t) (iblk m c 4 t) M S) := by
  classical
  have ht : t.val < 10 := lt_of_lt_of_eq t.isLt (show cfg0.N = 10 from N_0)
  have hrow : ∀ k : Fin 10000, 10000 * t.val + k.val < 100000 := fun k => by
    have := k.isLt
    omega
  have hs : ∀ k : Fin 10000, scores (iblk m c 0 t) (iblk m c 2 t) (iblk m c 3 t) (iblk m c 4 t) k
      = (r (10000 * t.val + k.val) : EReal) := fun k =>
    (blk_score ha t k ⟨_, hrow k⟩ rfl).trans (hr _)
  obtain ⟨μ, h1, h2, h3⟩ := h
  obtain ⟨μ', h4, h5⟩ := step_keptSum (by decide : 0 < 10000) t.val r (memAt ids g) μ _ hs
    (fun i j => hclose ⟨_, hrow i⟩ ⟨_, hrow j⟩)
  have hm := blk_mem ha hids t g
  refine ⟨μ', ?_, ?_, fun j => ?_⟩
  · unfold nextM
    rw [pay14_apply, h1, newMax_congr rfl hm]
    exact h4
  · unfold nextD
    rw [pay12_apply, h1, h2, step_congr rfl hm _ _ rfl]
    exact h5 _
  · unfold nextS
    rw [pay13_apply, h1, h3, step_congr rfl hm _ _ (funext fun k => blk_val ha t j k)]
    exact h5 _

/-- The kept arrays after point `n`, the scores real and close. -/
theorem holds_outs (ha : Args m c x ids W b q) (hids : ∀ n, (ids (ix1 n)).toNat < 256) (r : ℕ → ℝ)
    (hr : ∀ n : Fin 100000, rowScore x W b q n = (r n : EReal)) (hclose : ∀ i j : Fin 100000, r i - r j ≤ 104)
    (g : Fin 256) (n : ℕ) (hn : n < cfg0.N) :
    Holds (x := x) (ids := ids) r g (10000 * (n + 1)) (outsAt0 m c n hn).2.1 (outsAt0 m c n hn).2.2.1 (outsAt0 m c n hn).2.2.2 := by
  induction n with
  | zero =>
    obtain ⟨e1, e2, e3⟩ := outs_zero m c hn
    rw [e1, e2, e3]
    obtain ⟨μ, hμ⟩ := pay1_apply
    refine holds_next ha hids r hr hclose g ⟨0, hn⟩ _ _ _ ⟨μ, hμ g, ?_, fun j => ?_⟩
    · rw [pay2_apply]
      simp [keptSum]
    · rw [pay3_apply]
      simp [keptSum]
  | succ n ih =>
    obtain ⟨e1, e2, e3⟩ := outs_succ m c n hn _ rfl
    rw [e1, e2, e3]
    exact holds_next ha hids r hr hclose g ⟨n + 1, hn⟩ _ _ _ (ih (Nat.lt_of_succ_lt hn))

/-- A block of infinite scores leaves zero sums zero. -/
theorem zero_next (ha : Args m c x ids W b q) (hinf : (∀ n, rowScore x W b q n = ⊤) ∨ ∀ n, rowScore x W b q n = ⊥)
    (g : Fin 256) (t : Fin cfg0.N) (M D : Vec Ideal S256x1 .f32) (S : Vec Ideal S256x128 .f32)
    (h : D (ix2 g 0) = 0 ∧ ∀ j, S (ix2 g j) = 0) :
    nextD (iblk m c 0 t) (iblk m c 1 t) (iblk m c 2 t) (iblk m c 3 t) (iblk m c 4 t) M D (ix2 g 0) = 0
    ∧ ∀ j, nextS (iblk m c 0 t) (iblk m c 1 t) (iblk m c 2 t) (iblk m c 3 t) (iblk m c 4 t) M S (ix2 g j) = 0 := by
  have ht : t.val < 10 := lt_of_lt_of_eq t.isLt (show cfg0.N = 10 from N_0)
  have hrow : ∀ k : Fin 10000, 10000 * t.val + k.val < 100000 := fun k => by
    have := k.isLt
    omega
  have hs := fun k : Fin 10000 => blk_score ha t k ⟨_, hrow k⟩ rfl
  have hz := blkExp_of_infinite (mem := Mem (iblk m c 1 t) g) (by decide : 0 < 10000)
    (hinf.imp (fun h k => (hs k).trans (h _)) (fun h k => (hs k).trans (h _)))
  refine ⟨?_, fun j => ?_⟩
  · unfold nextD
    rw [pay12_apply, step_of_zero _ hz, h.1, zero_mul]
  · unfold nextS
    rw [pay13_apply, step_of_zero _ hz, h.2, zero_mul]

/-- The kept sums after point `n`, the scores infinite. -/
theorem zero_outs (ha : Args m c x ids W b q) (hinf : (∀ n, rowScore x W b q n = ⊤) ∨ ∀ n, rowScore x W b q n = ⊥)
    (g : Fin 256) (n : ℕ) (hn : n < cfg0.N) :
    (outsAt0 m c n hn).2.2.1 (ix2 g 0) = 0 ∧ ∀ j, (outsAt0 m c n hn).2.2.2 (ix2 g j) = 0 := by
  induction n with
  | zero =>
    obtain ⟨-, e2, e3⟩ := outs_zero m c hn
    rw [e2, e3]
    exact zero_next ha hinf g ⟨0, hn⟩ _ _ _ ⟨pay2_apply g, pay3_apply g⟩
  | succ n ih =>
    obtain ⟨-, e2, e3⟩ := outs_succ m c n hn _ rfl
    rw [e2, e3]
    exact zero_next ha hinf g ⟨n + 1, hn⟩ _ _ _ (ih (Nat.lt_of_succ_lt hn))

/-- The output at a graph and a column. -/
theorem out_apply (hn : 9 < cfg0.N) (g : Fin 256) (j : Fin 128) : Cert.KernelIdeal.Value.G5 m c (ix2 g j)
    = Ideal.div ((outsAt0 m c 9 hn).2.2.2 (ix2 g j)) (guardDen ((outsAt0 m c 9 hn).2.2.1 (ix2 g 0))) := by
  rw [Cert.KernelIdeal.Value.G5_last, ← Cert.KernelIdeal.Value.outsAt0_sweep m c 9 hn, outs_last, pay15_apply]

end Cert.KernelIdeal.Block
-- ==== Proof.Scatter.lean ====
module

public import Idealize.ShloMosaic.Lib.Routing.OpsPair
public import Idealize.ShloMosaic.Lib.Pointwise

/-! A sum scattered by one index word per row: each cell gains the rows whose word names it. -/

@[expose] public section

noncomputable section

namespace Cert.SegSoftmax

open Idealize.ShloMosaic Idealize.ShloMosaic.Routing

/-- Where the scatter of a vector into a vector puts update `n`. -/
theorem lands_vec {R n : ℕ} (d : ScatterDims (shape1 R) (shape2 n 1) (shape1 n)) (hiw : d.insertedWindowDims = [0])
    (hsd : d.scatterDimsToOperandDims = [0]) (hivd : d.indexVectorDim = 1) (idx : IVec (shape2 n 1) 32) (i : Fin n) (g : Fin R) :
    d.resultIdx? (ix1 i) idx = some (ix1 g) ↔ (idx (ix2 i 0)).toInt = (g.val : Int) := by
  have hm : (0 : Fin 1) ∈ d.scatterDimsToOperandDims := by simp [hsd]
  have hw : d.window (ix1 i) 0 = 0 := by
    unfold ScatterDims.window
    exact dif_neg fun h => (of_decide_eq_true (List.mem_filter.1 h).2) (by simp [hiw])
  have hs : d.start (ix1 i) idx 0 = (idx (ix2 i 0)).toInt := by
    unfold ScatterDims.start
    rw [dif_pos hm]
    congr 2
    funext b
    apply Fin.ext
    match b with
    | ⟨0, _⟩ =>
      unfold ScatterDims.siIdx
      rw [dif_neg (by simp [hivd])]
      unfold ScatterDims.siCoord
      have e : ∀ a : Fin 1, (ix1 i a).val = i.val := fun a => by
        rw [Subsingleton.elim a 0]
        rfl
      exact e _
    | ⟨1, _⟩ =>
      unfold ScatterDims.siIdx
      rw [dif_pos (by simp [hivd])]
      simp [hsd]
  refine (resultIdx?_ix1 d (ix1 i) idx g).trans ?_
  rw [hs, hw]
  omega

/-- A vector scattered into a vector of zeros: each cell is the sum of the entries sent to it. -/
theorem scatter_vec {R n : ℕ} (d : ScatterDims (shape1 R) (shape2 n 1) (shape1 n)) (hiw : d.insertedWindowDims = [0])
    (hsd : d.scatterDimsToOperandDims = [0]) (hivd : d.indexVectorDim = 1) (z : (shape1 R).Idx → EReal)
    (idx : IVec (shape2 n 1) 32) (e : (shape1 n).Idx → EReal) (g : Fin R) (hz : z (ix1 g) = 0) :
    Ideal.hostScatterAdd d z idx e (ix1 g) = ∑ i : Fin n, if (idx (ix2 i 0)).toInt = (g.val : Int) then e (ix1 i) else 0 := by
  unfold Ideal.hostScatterAdd
  rw [hz, zero_add, Finset.sum_filter]
  refine (sum_idx1 _).trans (Finset.sum_congr rfl fun i _ => ?_)
  exact if_congr (lands_vec d hiw hsd hivd idx i g) rfl rfl

/-- Where the scatter of rows into a table puts entry `c` of row `n`. -/
theorem lands_rows {R C n : ℕ} (d : ScatterDims (shape2 R C) (shape2 n 1) (shape2 n C)) (huw : d.updateWindowDims = [1])
    (hiw : d.insertedWindowDims = [0]) (hsd : d.scatterDimsToOperandDims = [0]) (hivd : d.indexVectorDim = 1)
    (idx : IVec (shape2 n 1) 32) (i : Fin n) (c : Fin C) (g : Fin R) (j : Fin C) :
    d.resultIdx? (ix2 i c) idx = some (ix2 g j) ↔ (idx (ix2 i 0)).toInt = (g.val : Int) ∧ c = j := by
  have hm : (0 : Fin 2) ∈ d.scatterDimsToOperandDims := by simp [hsd]
  have hk : d.sKept = [1] := by
    show (shape2 R C).kept d.insertedWindowDims = _
    rw [hiw]
    rfl
  have hu : d.uScatter = [0] := by
    show (shape2 n C).kept d.updateWindowDims = _
    rw [huw]
    rfl
  have one : ∀ (l : List (Fin 2)) (a : Fin 2) (k : ℕ) (h : k < l.length), l = [a] → l[k]'h = a := by
    intro l a k h hl
    subst hl
    obtain rfl : k = 0 := by simpa using h
    rfl
  have hw0 : d.window (ix2 i c) 0 = 0 := by
    unfold ScatterDims.window
    exact dif_neg fun h => (of_decide_eq_true (List.mem_filter.1 h).2) (by simp [hiw])
  have hw1 : d.window (ix2 i c) 1 = c.val := by
    unfold ScatterDims.window
    rw [dif_pos (by simp [hk]), one _ 1 _ _ huw]
    rfl
  have hs1 : d.start (ix2 i c) idx 1 = 0 := by
    unfold ScatterDims.start
    exact dif_neg (by simp [hsd])
  have hs0 : d.start (ix2 i c) idx 0 = (idx (ix2 i 0)).toInt := by
    unfold ScatterDims.start
    rw [dif_pos hm]
    congr 2
    funext b
    apply Fin.ext
    match b with
    | ⟨0, _⟩ =>
      unfold ScatterDims.siIdx
      rw [dif_neg (by simp [hivd])]
      unfold ScatterDims.siCoord
      simp only [Fin.val_cast]
      rw [one _ 0 _ _ hu]
      rfl
    | ⟨1, _⟩ =>
      unfold ScatterDims.siIdx
      rw [dif_pos (by simp [hivd])]
      simp [hsd]
  refine (resultIdx?_ix2 d (ix2 i c) idx g j).trans ?_
  rw [hs0, hw0, hs1, hw1, Fin.ext_iff]
  omega

/-- Rows scattered into a table of zeros: each cell is the sum of its column over the rows sent to its row. -/
theorem scatter_rows {R C n : ℕ} (d : ScatterDims (shape2 R C) (shape2 n 1) (shape2 n C)) (huw : d.updateWindowDims = [1])
    (hiw : d.insertedWindowDims = [0]) (hsd : d.scatterDimsToOperandDims = [0]) (hivd : d.indexVectorDim = 1)
    (z : (shape2 R C).Idx → EReal) (idx : IVec (shape2 n 1) 32) (y : (shape2 n C).Idx → EReal) (g : Fin R) (j : Fin C)
    (hz : z (ix2 g j) = 0) :
    Ideal.hostScatterAdd d z idx y (ix2 g j) = ∑ i : Fin n, if (idx (ix2 i 0)).toInt = (g.val : Int) then y (ix2 i j) else 0 := by
  unfold Ideal.hostScatterAdd
  rw [hz, zero_add, Finset.sum_filter]
  refine (sum_idx2 _).trans (Finset.sum_congr rfl fun i _ => ?_)
  rw [Finset.sum_eq_single j]
  · exact if_congr ((lands_rows d huw hiw hsd hivd idx i j g j).trans (by simp)) rfl rfl
  · intro c _ hc
    exact if_neg fun h => hc ((lands_rows d huw hiw hsd hivd idx i c g j).1 h).2
  · simp

end Cert.SegSoftmax
-- ==== Proof.Ref.lean ====
module

public import proofs.«01_k».proof.Proof.Gen.ReferenceIdeal.Run
public import proofs.«01_k».proof.Proof.Score
public import proofs.«01_k».proof.Proof.Scatter
public import Idealize.ShloMosaic.Lib.Routing.OpsSet
public import Idealize.ShloMosaic.Lib.Pointwise

/-! The reference, stage by stage, each stage read at an index. -/

@[expose] public section

noncomputable section

namespace Cert.ReferenceIdeal.Block

open Cert.ReferenceIdeal Cert.ReferenceIdeal.Gen Idealize.ShloMosaic Idealize.ShloMosaic.TcCoe Cert.SegSoftmax

set_option maxRecDepth 16384

variable (x : FVec Ideal S100000x128 .f32) (ids : IVec S100000 32) (W : FVec Ideal S128x128 .f32)
  (b q : FVec Ideal S128 .f32)

/-- The scores. -/
def scoreV : FVec Ideal S100000 .f32 :=
  Host.dotGeneral dot_S100000x128_S128_S100000_1_0_0_n_n_n none (Host.tanh (addf (Host.dotGeneral dot_S100000x128_S128x128_S100000x128_1_0_0_1_n_n none x (transpose S128x128 [1, 0] W transposes_S128x128_S128x128_1_0)) (broadcastInDim S100000x128 ![0, 1] bcast_S1x128_S100000x128_0_1 (broadcastInDim S1x128 ![1] bcast_S128_S1x128_1 b)))) q

/-- The graph numbers as a column. -/
def colV : IVec S100000x1 32 := broadcastInDim S100000x1 ![0] bcast_S100000_S100000x1_0 ids

/-- The graph numbers as read by an indexing, a negative one counted from the end. -/
def wrapV : IVec S100000x1 32 :=
  broadcastInDim S100000x1 ![0] bcast_S100000_S100000x1_0 (select (cmpi .slt ids (broadcastInDim S100000 ![] bcast_S_S100000 (constantI S_ 32 0#32))) (addi ids (broadcastInDim S100000 ![] bcast_S_S100000 (constantI S_ 32 256#32))) ids)

/-- Each graph's largest score. -/
def maxV (s : FVec Ideal S100000 .f32) : FVec Ideal S256 .f32 :=
  Host.reduce FloatOps.maximumf (select (cmpi .eq (broadcastInDim S100000x256 ![0, 1] bcast_S100000x1_S100000x256_0_1 (broadcastInDim S100000x1 ![0] bcast_S100000_S100000x1_0 ids)) (broadcastInDim S100000x256 ![0, 1] bcast_S1x256_S100000x256_0_1 (broadcastInDim S1x256 ![1] bcast_S256_S1x256_1 (iotaInDim S256 32 0)))) (broadcastInDim S100000x256 ![0, 1] bcast_S100000x1_S100000x256_0_1 (broadcastInDim S100000x1 ![0] bcast_S100000_S100000x1_0 s)) (broadcastInDim S100000x256 ![] bcast_S_S100000x256 (id (constant S_ .f32 0xFF800000#32)))) (constant S_ .f32 0xFF800000#32) reducesTo_S100000x256_S256_d0 h_S_

/-- The shift of each graph: its largest score, zero where that is infinite. -/
def shiftV (mx : FVec Ideal S256 .f32) : FVec Ideal S256 .f32 :=
  select (cmpf .olt (Host.absf mx) (broadcastInDim S256 ![] bcast_S_S256 (constant S_ .f32 0x7F800000#32))) mx (broadcastInDim S256 ![] bcast_S_S256 (id (constant S_ .f32 0x00000000#32)))

/-- One number per graph, read by every row. -/
def takeV (v : FVec Ideal S256 .f32) (w : IVec S100000x1 32) : FVec Ideal S100000 .f32 :=
  Host.gather gather_S256_S100000x1_S100000_n_0_n_n_0_1_1 v w

/-- The rows' exponentials. -/
def expV (s u : FVec Ideal S100000 .f32) : FVec Ideal S100000 .f32 := Host.exp (subf s u)

/-- The sum over each graph's rows. -/
def sumV (e : FVec Ideal S100000 .f32) (w : IVec S100000x1 32) : FVec Ideal S256 .f32 :=
  Host.scatterAdd scatter_S256_S100000x1_S100000_n_0_0_1 (broadcastInDim S256 ![] bcast_S_S256 (constant S_ .f32 0x00000000#32)) w e

/-- The denominators, a zero made one. -/
def guardV (d : FVec Ideal S256 .f32) : FVec Ideal S256 .f32 :=
  select (cmpf .oeq d (broadcastInDim S256 ![] bcast_S_S256 (constant S_ .f32 0x00000000#32))) (broadcastInDim S256 ![] bcast_S_S256 (id (constant S_ .f32 0x3F800000#32))) d

/-- The rows, each times its weight. -/
def rowsV (e u : FVec Ideal S100000 .f32) : FVec Ideal S100000x128 .f32 :=
  mulf (broadcastInDim S100000x128 ![0, 1] bcast_S100000x1_S100000x128_0_1 (broadcastInDim S100000x1 ![0] bcast_S100000_S100000x1_0 (Host.divf e u))) x

/-- The sums of the rows over each graph. -/
def outV (y : FVec Ideal S100000x128 .f32) (w : IVec S100000x1 32) : FVec Ideal S256x128 .f32 :=
  Host.scatterAdd scatter_S256x128_S100000x1_S100000x128_1_0_0_1 (broadcastInDim S256x128 ![] bcast_S_S256x128 (constant S_ .f32 0x00000000#32)) w y

/-- The rows' exponentials at the graphs' shifts. -/
def expAll : FVec Ideal S100000 .f32 :=
  expV (scoreV x W b q) (takeV (shiftV (maxV ids (scoreV x W b q))) (wrapV ids))

/-- The reference's result is its stages, one after the other. -/
theorem res_eq (m : (ℓ : Loc nD τ sig) → Buf (Elt Ideal) ℓ) (c : Dev nD)
    (hx : m ((c.tc : Thread nD τ).loc main_arg0) = x) (hids : m ((c.tc : Thread nD τ).loc main_arg1) = ids)
    (hW : m ((c.tc : Thread nD τ).loc main_arg2) = W) (hb : m ((c.tc : Thread nD τ).loc main_arg3) = b)
    (hq : m ((c.tc : Thread nD τ).loc main_arg4) = q) :
    Cert.ReferenceIdeal.Value.res_out0 m c
      = outV (rowsV x (expAll x ids W b q) (takeV (guardV (sumV (expAll x ids W b q) (colV ids))) (wrapV ids))) (colV ids) := by
  subst hx hids hW hb hq
  rfl

/-- The scores at a row. -/
theorem scoreV_apply (n : Fin 100000) : scoreV x W b q (ix1 n)
    = score (fun j => x (ix2 n j)) (fun k j => W (ix2 k j)) (fun k => b (ix1 k)) (fun k => q (ix1 k)) := by
  unfold score
  pointwise [scoreV]

/-- The column at a row. -/
theorem colV_apply (n : Fin 100000) : colV ids (ix2 n 0) = ids (ix1 n) := by
  pointwise [colV]

/-- An index in range is not wrapped. -/
theorem wrapV_apply (n : Fin 100000) : wrapV ids (ix2 n 0)
    = Scalar.select (IntOp.cmpi .slt (ids (ix1 n)) 0#32) (IntOp.addi (ids (ix1 n)) 256#32) (ids (ix1 n)) := by
  pointwise [wrapV]

/-- Each graph's largest score. -/
theorem maxV_apply (s : FVec Ideal S100000 .f32) (g : Fin 256) : maxV ids s (ix1 g)
    = memMax (fun n : Fin 100000 => s (ix1 n)) (fun n => ids (ix1 n) = BitVec.ofNat 32 g.val) := by
  have : maxV ids s (ix1 g) = Finset.fold max (Ideal.ofBits .f32 0xFF800000#32) (fun n : Fin 100000 =>
      Scalar.select (IntOp.cmpi CmpIPredicate.eq (ids (ix1 n)) (BitVec.ofNat 32 g.val)) (s (ix1 n)) (Ideal.ofBits .f32 0xFF800000#32)) Finset.univ := by
    pointwise [maxV]
    rfl
  rw [this, ofBits_neg_inf]
  unfold memMax
  exact Finset.fold_congr fun n _ => select_eq _ _ _ _

/-- The shift of a graph. -/
theorem shiftV_apply (mx : FVec Ideal S256 .f32) (g : Fin 256) : shiftV mx (ix1 g)
    = if max (mx (ix1 g)) (-mx (ix1 g)) < ⊤ then mx (ix1 g) else 0 := by
  have e : (id (constant (F := Ideal) S_ .f32 0x00000000#32)) ix0 = 0 := ofBits_zero
  rw [← ofBits_inf]
  pointwise [shiftV]
  rw [e]
  rfl

/-- The exponential at a row. -/
theorem expV_apply (s u : FVec Ideal S100000 .f32) (n : Fin 100000) :
    expV s u (ix1 n) = Ideal.exp (s (ix1 n) - u (ix1 n)) := by
  pointwise [expV]

/-- The guarded denominator of a graph. -/
theorem guardV_apply (d : FVec Ideal S256 .f32) (g : Fin 256) : guardV d (ix1 g) = guardDen (d (ix1 g)) := by
  unfold guardDen
  have e : (id (constant (F := Ideal) S_ .f32 0x3F800000#32)) ix0 = 1 := ofBits_one
  pointwise [guardV]
  rw [e]

/-- A weighted row at a column. -/
theorem rowsV_apply (e u : FVec Ideal S100000 .f32) (n : Fin 100000) (j : Fin 128) :
    rowsV x e u (ix2 n j) = Ideal.div (e (ix1 n)) (u (ix1 n)) * x (ix2 n j) := by
  pointwise [rowsV]

/-- The sum over a graph's rows. -/
theorem sumV_apply (e : FVec Ideal S100000 .f32) (w : IVec S100000x1 32) (g : Fin 256) :
    sumV e w (ix1 g) = ∑ n : Fin 100000, if (w (ix2 n 0)).toInt = (g.val : Int) then e (ix1 n) else 0 :=
  scatter_vec scatter_S256_S100000x1_S100000_n_0_0_1 rfl rfl rfl _ w e g ofBits_zero

/-- The sum of the rows over a graph, at a column. -/
theorem outV_apply (y : FVec Ideal S100000x128 .f32) (w : IVec S100000x1 32) (g : Fin 256) (j : Fin 128) :
    outV y w (ix2 g j) = ∑ n : Fin 100000, if (w (ix2 n 0)).toInt = (g.val : Int) then y (ix2 n j) else 0 :=
  scatter_rows scatter_S256x128_S100000x1_S100000x128_1_0_0_1 rfl rfl rfl rfl _ w y g j ofBits_zero

/-- A row reads the number of its graph. -/
theorem takeV_apply (v : FVec Ideal S256 .f32) (w : IVec S100000x1 32) (n : Fin 100000) (g : Fin 256)
    (h : w (ix2 n 0) = BitVec.ofNat 32 g.val) : takeV v w (ix1 n) = v (ix1 g) :=
  Routing.gather_take1 gather_S256_S100000x1_S100000_n_0_n_n_0_1_1 rfl rfl rfl rfl v w n g h (by norm_num)

/-- A row of graph `g` has the index `g`, wrapped or not. -/
theorem wrapV_of (n : Fin 100000) (g : Fin 256) (h : ids (ix1 n) = BitVec.ofNat 32 g.val) :
    wrapV ids (ix2 n 0) = BitVec.ofNat 32 g.val := by
  rw [wrapV_apply, Routing.wrap_of_lt, h]
  rw [h, BitVec.toNat_ofNat]
  have := g.isLt
  omega

/-- A word read signed is a graph's number exactly when it is that number's word. -/
theorem toInt_eq_iff (v : BitVec 32) (g : Fin 256) : v.toInt = (g.val : Int) ↔ v = BitVec.ofNat 32 g.val := by
  have hg := g.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-- Membership of the rows in graph `g`. -/
abbrev Mem (g : Fin 256) (n : Fin 100000) : Prop := ids (ix1 n) = BitVec.ofNat 32 g.val

/-- The exponential of a member of graph `g` is taken at the graph's shift. -/
theorem expAll_apply (n : Fin 100000) (g : Fin 256) (h : Mem ids g n) :
    expAll x ids W b q (ix1 n) = Ideal.exp (scoreV x W b q (ix1 n) - poolShift (fun n => scoreV x W b q (ix1 n)) (Mem ids g)) := by
  unfold expAll poolShift
  rw [expV_apply, takeV_apply _ _ n g (wrapV_of ids n g h), shiftV_apply, maxV_apply]

/-- The denominator of a graph. -/
theorem sumV_expAll (g : Fin 256) : sumV (expAll x ids W b q) (colV ids) (ix1 g)
    = poolDen (fun n => scoreV x W b q (ix1 n)) (Mem ids g) (poolShift (fun n => scoreV x W b q (ix1 n)) (Mem ids g)) := by
  rw [sumV_apply]
  unfold poolDen
  refine Finset.sum_congr rfl fun n _ => ?_
  simp only [colV_apply, toInt_eq_iff]
  exact if_ctx_congr Iff.rfl (fun h => expAll_apply x ids W b q n g h) fun _ => rfl

/-- The reference pools: its stages at a graph and a column. -/
theorem stages_apply (g : Fin 256) (j : Fin 128) :
    outV (rowsV x (expAll x ids W b q) (takeV (guardV (sumV (expAll x ids W b q) (colV ids))) (wrapV ids))) (colV ids) (ix2 g j)
      = Cert.SegSoftmax.pool (fun n => scoreV x W b q (ix1 n)) (Mem ids g) (fun n => x (ix2 n j))
          (poolShift (fun n => scoreV x W b q (ix1 n)) (Mem ids g)) := by
  rw [outV_apply]
  unfold Cert.SegSoftmax.pool
  refine Finset.sum_congr rfl fun n _ => ?_
  simp only [colV_apply, toInt_eq_iff]
  refine if_ctx_congr Iff.rfl (fun h => ?_) fun _ => rfl
  rw [rowsV_apply, takeV_apply _ _ n g (wrapV_of ids n g h), guardV_apply, sumV_expAll, expAll_apply x ids W b q n g h]

end Cert.ReferenceIdeal.Block
-- ==== Proof.Pre.lean ====
module

public import proofs.«01_k».proof.Proof.Gen.Pre_scores_close
public import proofs.«01_k».proof.Proof.Score
public import Idealize.ShloMosaic.Lib.Pointwise

/-! What the precondition says: scores no further than 104 apart, and graph numbers in range. -/

@[expose] public section

noncomputable section

namespace Cert.Pre_scores_close.Block

open Cert.Pre_scores_close Idealize.ShloMosaic Cert.SegSoftmax

set_option maxRecDepth 16384

variable [Facts] (x : FVec Ideal S100000x128 .f32) (ids : IVec S100000 32) (W : FVec Ideal S128x128 .f32)
  (b q : FVec Ideal S128 .f32)

/-- The scores of all rows. -/
def scores (n : Fin 100000) : EReal :=
  score (fun j => x (ix2 n j)) (fun k j => W (ix2 k j)) (fun k => b (ix1 k)) (fun k => q (ix1 k))

/-- The bit a row's graph number in range sets. -/
def inRange (n : Fin 100000) : BitVec 1 :=
  IntOp.andi (IntOp.cmpi CmpIPredicate.sge (ids (ix1 n)) 0#32) (IntOp.cmpi CmpIPredicate.slt (ids (ix1 n)) 256#32)

/-- The precondition's bit, read. -/
theorem fn_apply (i : S_.Idx) : fn (F := Ideal) x ids W b q i
    = IntOp.andi (BitVec.ofBool (decide (Finset.fold max (Ideal.ofBits .f32 0xFF800000#32) (scores x W b q) Finset.univ
        - Finset.fold min (Ideal.ofBits .f32 0x7F800000#32) (scores x W b q) Finset.univ ≤ Ideal.ofBits .f32 0x42D00000#32)))
      (Finset.fold IntOp.andi 1#1 (inRange ids) Finset.univ) := by
  unfold scores score inRange
  pointwise [fn]

/-- A conjunction of bits is set only where both are. -/
theorem andi_eq_one (a b : BitVec 1) (h : IntOp.andi a b = 1#1) : a = 1#1 ∧ b = 1#1 := by
  revert a b
  decide

/-- A conjunction over a family of bits is set only where each is. -/
theorem fold_andi_eq_one {ι : Type*} (A : Finset ι) (f : ι → BitVec 1) (h : A.fold IntOp.andi 1#1 f = 1#1) :
    ∀ i ∈ A, f i = 1#1 := by
  classical
  induction A using Finset.induction_on with
  | empty => simp
  | insert a A ha ih =>
    rw [Finset.fold_insert ha] at h
    obtain ⟨h1, h2⟩ := andi_eq_one _ _ h
    intro i hi
    rcases Finset.mem_insert.1 hi with rfl | hi
    · exact h1
    · exact ih h2 i hi

/-- The precondition bounds the spread of the scores. -/
theorem spread (h : fn (F := Ideal) x ids W b q = fun _ => 1#1) :
    blkMax (scores x W b q) - scoreMin (scores x W b q) ≤ ((104 : ℝ) : EReal) := by
  have h0 := congrFun h (fun a => a.elim0)
  rw [fn_apply, ofBits_neg_inf, ofBits_inf, ofBits_104] at h0
  have h1 := (andi_eq_one _ _ h0).1
  by_contra hc
  unfold blkMax scoreMin at hc
  rw [decide_eq_false hc] at h1
  exact absurd h1 (by decide)

/-- The precondition puts every graph number in range. -/
theorem range (h : fn (F := Ideal) x ids W b q = fun _ => 1#1) (n : Fin 100000) : (ids (ix1 n)).toNat < 256 := by
  have h0 := congrFun h (fun a => a.elim0)
  rw [fn_apply] at h0
  have h1 := fold_andi_eq_one _ _ (andi_eq_one _ _ h0).2 n (Finset.mem_univ n)
  obtain ⟨h2, h3⟩ := andi_eq_one _ _ h1
  generalize ids (ix1 n) = v at h2 h3
  have hb : ∀ c : Bool, BitVec.ofBool c = 1#1 → c = true := by decide
  have h4 : (0#32).sle v = true := hb _ h2
  have h5 : v.slt 256#32 = true := hb _ h3
  simp only [BitVec.sle, BitVec.slt, decide_eq_true_eq, BitVec.toInt_eq_toNat_cond, BitVec.toNat_ofNat] at h4 h5
  split at h4 <;> omega

end Cert.Pre_scores_close.Block
-- ==== Proof.Tie.lean ====
module

public import proofs.«01_k».proof.Proof.Fold
public import proofs.«01_k».proof.Proof.Ref
public import proofs.«01_k».proof.Proof.Pre

/-! The kernel's output and the reference's result are one softmax pooling. -/

@[expose] public section

noncomputable section

open Idealize.ShloMosaic Idealize.ShloMosaic.TcCoe Idealize.SL.Sem

namespace Cert.SegSoftmax

/-- Pooling depends on the membership alone, not on how it is decided. -/
theorem pool_congr {N : ℕ} (s : Fin N → EReal) {mem mem' : Fin N → Prop} [DecidablePred mem] [DecidablePred mem']
    (hm : ∀ n, mem n ↔ mem' n) {x x' : Fin N → EReal} (hx : x = x') (M : EReal) :
    Cert.SegSoftmax.pool s mem x M = Cert.SegSoftmax.pool s mem' x' M := by
  subst hx
  obtain rfl : mem = mem' := funext fun n => propext (hm n)
  congr!

end Cert.SegSoftmax

namespace Cert.KernelIdeal.Block

open Cert.KernelIdeal Cert.KernelIdeal.Gen Cert.SegSoftmax

variable {m : (ℓ : Loc nD τ sig) → Buf (Elt Ideal) ℓ} {c : Dev nD}
  {x : Vec Ideal S100000x128 .f32} {ids : IVec S100000 32} {W : Vec Ideal S128x128 .f32} {b q : Vec Ideal S128 .f32}

/-- The kernel pools. -/
theorem out_pool (ha : Args m c x ids W b q) (hids : ∀ n, (ids (ix1 n)).toNat < 256)
    (hs : blkMax (rowScore x W b q) - scoreMin (rowScore x W b q) ≤ ((104 : ℝ) : EReal)) (g : Fin 256) (j : Fin 128) :
    Cert.KernelIdeal.Value.G5 m c (ix2 g j)
      = Cert.SegSoftmax.pool (rowScore x W b q) (fun n => ids (ix1 n) = BitVec.ofNat 32 g.val) (fun n => x (ix2 n j))
          (poolShift (rowScore x W b q) fun n => ids (ix1 n) = BitVec.ofNat 32 g.val) := by
  classical
  have h9 : 9 < cfg0.N := lt_of_lt_of_eq (by decide) N_0.symm
  rw [out_apply h9]
  rcases spread_cases _ hs with ⟨r, hr, hclose⟩ | hinf
  · let rN : ℕ → ℝ := fun n => if h : n < 100000 then r ⟨n, h⟩ else 0
    have hrN : ∀ n : Fin 100000, rN n = r n := fun n => dif_pos n.isLt
    have hr' : ∀ n : Fin 100000, rowScore x W b q n = (rN n : EReal) := fun n => by rw [hrN, hr]
    obtain ⟨μ, -, h2, h3⟩ := holds_outs ha hids rN hr' (fun i k => by rw [hrN, hrN]; exact hclose i k) g 9 h9
    rw [h2, h3]
    have hm : ∀ n : Fin 100000, memAt ids g n ↔ ids (ix1 n) = BitVec.ofNat 32 g.val := fun n =>
      ⟨fun ⟨_, h⟩ => h, fun h => ⟨n.isLt, h⟩⟩
    have hx : (fun n : Fin 100000 => valAt x j n) = fun n => x (ix2 n j) := funext fun n => dif_pos n.isLt
    rw [← pool_congr _ hm hx]
    exact (pool_real _ rN (memAt ids g) (valAt x j) μ hr' fun ⟨n, hn⟩ => poolShift_real r hr ⟨n, (hm n).1 hn⟩).symm
  · obtain ⟨h1, h2⟩ := zero_outs ha hinf g 9 h9
    rw [h1, h2, pool_infinite _ hinf]
    simp [Ideal.div, guardDen]

/-- The two programs agree where the precondition holds. -/
theorem tie (m' : (ℓ : Loc Cert.ReferenceIdeal.nD Cert.ReferenceIdeal.τ Cert.ReferenceIdeal.sig) → Buf (Elt Ideal) ℓ) (ha : Args m c x ids W b q)
    (h0 : m' ((c.tc : Thread Cert.ReferenceIdeal.nD Cert.ReferenceIdeal.τ).loc Cert.ReferenceIdeal.main_arg0) = x)
    (h1 : m' ((c.tc : Thread Cert.ReferenceIdeal.nD Cert.ReferenceIdeal.τ).loc Cert.ReferenceIdeal.main_arg1) = ids)
    (h2 : m' ((c.tc : Thread Cert.ReferenceIdeal.nD Cert.ReferenceIdeal.τ).loc Cert.ReferenceIdeal.main_arg2) = W)
    (h3 : m' ((c.tc : Thread Cert.ReferenceIdeal.nD Cert.ReferenceIdeal.τ).loc Cert.ReferenceIdeal.main_arg3) = b)
    (h4 : m' ((c.tc : Thread Cert.ReferenceIdeal.nD Cert.ReferenceIdeal.τ).loc Cert.ReferenceIdeal.main_arg4) = q)
    (hpre : Cert.Pre_scores_close.fn (F := Ideal) x ids W b q = fun _ => 1#1) :
    Cert.ReferenceIdeal.Value.res_out0 m' c = Cert.KernelIdeal.Value.G5 m c := by
  rw [Cert.ReferenceIdeal.Block.res_eq x ids W b q m' c h0 h1 h2 h3 h4]
  refine funext fun i => ?_
  obtain ⟨g, j, rfl⟩ : ∃ (g : Fin 256) (j : Fin 128), i = ix2 g j := ⟨i 0, i 1, eq_ix2 i⟩
  rw [out_pool ha (Cert.Pre_scores_close.Block.range x ids W b q hpre) (Cert.Pre_scores_close.Block.spread x ids W b q hpre)]
  rw [Cert.ReferenceIdeal.Block.stages_apply]
  have hs : (fun n => Cert.ReferenceIdeal.Block.scoreV x W b q (ix1 n)) = rowScore x W b q :=
    funext fun n => Cert.ReferenceIdeal.Block.scoreV_apply x W b q n
  rw [hs]

end Cert.KernelIdeal.Block
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_scores_close
public import proofs.«01_k».proof.Proof.Gen.ReferenceIdeal.Run
public import Idealize.ShloMosaic.Adequacy
public import Idealize.ShloMosaic.Init
public import Idealize.ShloMosaic.Lib.Quiescent
public import proofs.«01_k».proof.Proof.Tie

/-! The claims: each program runs and leaves its arguments, and the kernel's result is the reference's. -/

@[expose] public section

noncomputable section

namespace Cert.Proof

open Idealize.ShloMosaic Idealize.SL.Sem

/-- The reference runs. -/
theorem reference_runs : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference runs where the precondition holds. -/
theorem reference_runs_pre : quiescent_ReferenceIdeal_pre_scores_close := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel computes what the reference computes. -/
theorem kernel_eq_reference : algebraic_KernelIdeal_ReferenceIdeal_pre_scores_close := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4⟩ := hagree c
  exact (h c).1.trans (Cert.KernelIdeal.Block.tie m' ⟨rfl, rfl, rfl, rfl, rfl⟩ h0 h1 h2 h3 h4 (hpre c))

/-- Every claim. -/
theorem claim : Cert.Claim := ⟨Cert.Kernel.Gen.facts, Cert.KernelIdeal.Gen.facts, Cert.ReferenceIdeal.Gen.facts, Cert.Pre_scores_close.Gen.facts,
  fun m ρ _ => Cert.Kernel.Gen.frame m ρ, fun m ρ _ => Cert.KernelIdeal.Gen.frame m ρ, fun m ρ _ => Cert.KernelIdeal.Gen.frame m ρ,
  reference_runs, reference_runs_pre, (trivial : preserves_Kernel_KernelIdeal), kernel_eq_reference⟩

end Cert.Proof

end
